-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![2048, 32768]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 2048]⟩ ⟨2, ![2048, 32768]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_finite_ReferenceIdeal.lean ====
abbrev S2048x32768 : Shape := ⟨2, ![2048, 32768]⟩
abbrev S_ : Shape := ⟨0, ![]⟩

class Facts : Prop where
  bcast_S_S2048x32768 : S_.BroadcastsInDim S2048x32768 (![] : Fin 0 → Fin S2048x32768.rank)

variable [Facts]

def fn {F : FTy → Type} [FloatOps F] (main_arg0 : FVec F S2048x32768 .f32) : IVec S2048x32768 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  main_v2
-- ==== Kernel.lean ====
abbrev S2048x2048 : Shape := ⟨2, ![2048, 2048]⟩
abbrev S1x2048 : Shape := ⟨2, ![1, 2048]⟩
abbrev S16x1x2048 : Shape := ⟨3, ![16, 1, 2048]⟩
abbrev S8 : Shape := ⟨1, ![8]⟩
abbrev S2x16 : Shape := ⟨2, ![2, 16]⟩
abbrev S_ : Shape := ⟨0, ![]⟩
abbrev S1 : Shape := ⟨1, ![1]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S1x1024 : Shape := ⟨2, ![1, 1024]⟩
abbrev S1x1x1024 : Shape := ⟨3, ![1, 1, 1024]⟩
abbrev S1x1 : Shape := ⟨2, ![1, 1]⟩
abbrev S16x1x1024 : Shape := ⟨3, ![16, 1, 1024]⟩
abbrev S16x1024 : Shape := ⟨2, ![16, 1024]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x2048, .f32⟩
  | .local _ .vmem, ⟨1, _⟩ => ⟨S2048x2048, .bf16⟩
  | .local _ .vmem, ⟨2, _⟩ => ⟨S1x2048, .f32⟩
  | .local _ .vmem, ⟨3, _⟩ => ⟨S16x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_503 : BitVec 32 := 0#32
  let c0_i32_501 : BitVec 32 := 0#32
  let c1_i32_502 : BitVec 32 := 1#32
  let v714 : BitVec 32 := Scalar.muli c0_i32_501 c1_i32_502
  let v715 : BitVec 32 := Scalar.addi c0_i32_503 v714
  v715.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_503 : BitVec 32 := 0#32
  let c1_i32_501 : BitVec 32 := 1#32
  let c1_i32_502 : BitVec 32 := 1#32
  let v714 : BitVec 32 := Scalar.muli c1_i32_501 c1_i32_502
  let v715 : BitVec 32 := Scalar.addi c0_i32_503 v714
  v715.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_503 : BitVec 32 := 0#32
  let c2_i32_501 : BitVec 32 := 2#32
  let c1_i32_502 : BitVec 32 := 1#32
  let v714 : BitVec 32 := Scalar.muli c2_i32_501 c1_i32_502
  let v715 : BitVec 32 := Scalar.addi c0_i32_503 v714
  v715.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_503 : BitVec 32 := 0#32
  let c3_i32_501 : BitVec 32 := 3#32
  let c1_i32_502 : BitVec 32 := 1#32
  let v714 : BitVec 32 := Scalar.muli c3_i32_501 c1_i32_502
  let v715 : BitVec 32 := Scalar.addi c0_i32_503 v714
  v715.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_503 : BitVec 32 := 0#32
  let c4_i32_501 : BitVec 32 := 4#32
  let c1_i32_502 : BitVec 32 := 1#32
  let v714 : BitVec 32 := Scalar.muli c4_i32_501 c1_i32_502
  let v715 : BitVec 32 := Scalar.addi c0_i32_503 v714
  v715.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_503 : BitVec 32 := 0#32
  let c5_i32_501 : BitVec 32 := 5#32
  let c1_i32_502 : BitVec 32 := 1#32
  let v714 : BitVec 32 := Scalar.muli c5_i32_501 c1_i32_502
  let v715 : BitVec 32 := Scalar.addi c0_i32_503 v714
  v715.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_503 : BitVec 32 := 0#32
  let c6_i32_501 : BitVec 32 := 6#32
  let c1_i32_502 : BitVec 32 := 1#32
  let v714 : BitVec 32 := Scalar.muli c6_i32_501 c1_i32_502
  let v715 : BitVec 32 := Scalar.addi c0_i32_503 v714
  v715.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_503 : BitVec 32 := 0#32
  let c7_i32_501 : BitVec 32 := 7#32
  let c1_i32_502 : BitVec 32 := 1#32
  let v714 : BitVec 32 := Scalar.muli c7_i32_501 c1_i32_502
  let v715 : BitVec 32 := Scalar.addi c0_i32_503 v714
  v715.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_503 : BitVec 32 := 0#32
  let c8_i32_501 : BitVec 32 := 8#32
  let c1_i32_502 : BitVec 32 := 1#32
  let v714 : BitVec 32 := Scalar.muli c8_i32_501 c1_i32_502
  let v715 : BitVec 32 := Scalar.addi c0_i32_503 v714
  v715.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_503 : BitVec 32 := 0#32
  let c9_i32_501 : BitVec 32 := 9#32
  let c1_i32_502 : BitVec 32 := 1#32
  let v714 : BitVec 32 := Scalar.muli c9_i32_501 c1_i32_502
  let v715 : BitVec 32 := Scalar.addi c0_i32_503 v714
  v715.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_503 : BitVec 32 := 0#32
  let c10_i32_501 : BitVec 32 := 10#32
  let c1_i32_502 : BitVec 32 := 1#32
  let v714 : BitVec 32 := Scalar.muli c10_i32_501 c1_i32_502
  let v715 : BitVec 32 := Scalar.addi c0_i32_503 v714
  v715.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_503 : BitVec 32 := 0#32
  let c11_i32_501 : BitVec 32 := 11#32
  let c1_i32_502 : BitVec 32 := 1#32
  let v714 : BitVec 32 := Scalar.muli c11_i32_501 c1_i32_502
  let v715 : BitVec 32 := Scalar.addi c0_i32_503 v714
  v715.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_503 : BitVec 32 := 0#32
  let c12_i32_501 : BitVec 32 := 12#32
  let c1_i32_502 : BitVec 32 := 1#32
  let v714 : BitVec 32 := Scalar.muli c12_i32_501 c1_i32_502
  let v715 : BitVec 32 := Scalar.addi c0_i32_503 v714
  v715.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_503 : BitVec 32 := 0#32
  let c13_i32_501 : BitVec 32 := 13#32
  let c1_i32_502 : BitVec 32 := 1#32
  let v714 : BitVec 32 := Scalar.muli c13_i32_501 c1_i32_502
  let v715 : BitVec 32 := Scalar.addi c0_i32_503 v714
  v715.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_503 : BitVec 32 := 0#32
  let c14_i32_501 : BitVec 32 := 14#32
  let c1_i32_502 : BitVec 32 := 1#32
  let v714 : BitVec 32 := Scalar.muli c14_i32_501 c1_i32_502
  let v715 : BitVec 32 := Scalar.addi c0_i32_503 v714
  v715.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_503 : BitVec 32 := 0#32
  let c15_i32_501 : BitVec 32 := 15#32
  let c1_i32_502 : BitVec 32 := 1#32
  let v714 : BitVec 32 := Scalar.muli c15_i32_501 c1_i32_502
  let v715 : BitVec 32 := Scalar.addi c0_i32_503 v714
  v715.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_118 : BitVec 32 := 0#32
  let v180 : BitVec 1 := Scalar.cmpi .ne v2 c0_i32_118
  let v181 : BitVec 32 := Scalar.extui v180
  let c0_i32_119 : BitVec 32 := 0#32
  let v182 : BitVec 1 := Scalar.cmpi .ne v181 c0_i32_119
  v182

def k0_off1 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev17 : Nat :=
  let c0_i32_505 : BitVec 32 := 0#32
  let c0_i32_503 : BitVec 32 := 0#32
  let c1_i32_504 : BitVec 32 := 1#32
  let v714 : BitVec 32 := Scalar.muli c0_i32_503 c1_i32_504
  let v715 : BitVec 32 := Scalar.addi c0_i32_505 v714
  v715.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v183 : BitVec 1 := Scalar.cmpi .ne v2 c1_i32_120
  let v184 : BitVec 32 := Scalar.extui v183
  let c0_i32_121 : BitVec 32 := 0#32
  let v185 : BitVec 1 := Scalar.cmpi .ne v184 c0_i32_121
  v185

def k0_off3 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev18 : Nat :=
  let c0_i32_505 : BitVec 32 := 0#32
  let c1_i32_503 : BitVec 32 := 1#32
  let c1_i32_504 : BitVec 32 := 1#32
  let v714 : BitVec 32 := Scalar.muli c1_i32_503 c1_i32_504
  let v715 : BitVec 32 := Scalar.addi c0_i32_505 v714
  v715.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v186 : BitVec 1 := Scalar.cmpi .ne v2 c2_i32_122
  let v187 : BitVec 32 := Scalar.extui v186
  let c0_i32_123 : BitVec 32 := 0#32
  let v188 : BitVec 1 := Scalar.cmpi .ne v187 c0_i32_123
  v188

def k0_off5 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev19 : Nat :=
  let c0_i32_505 : BitVec 32 := 0#32
  let c2_i32_503 : BitVec 32 := 2#32
  let c1_i32_504 : BitVec 32 := 1#32
  let v714 : BitVec 32 := Scalar.muli c2_i32_503 c1_i32_504
  let v715 : BitVec 32 := Scalar.addi c0_i32_505 v714
  v715.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v189 : BitVec 1 := Scalar.cmpi .ne v2 c3_i32_124
  let v190 : BitVec 32 := Scalar.extui v189
  let c0_i32_125 : BitVec 32 := 0#32
  let v191 : BitVec 1 := Scalar.cmpi .ne v190 c0_i32_125
  v191

def k0_off7 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev20 : Nat :=
  let c0_i32_505 : BitVec 32 := 0#32
  let c3_i32_503 : BitVec 32 := 3#32
  let c1_i32_504 : BitVec 32 := 1#32
  let v714 : BitVec 32 := Scalar.muli c3_i32_503 c1_i32_504
  let v715 : BitVec 32 := Scalar.addi c0_i32_505 v714
  v715.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v192 : BitVec 1 := Scalar.cmpi .ne v2 c4_i32_126
  let v193 : BitVec 32 := Scalar.extui v192
  let c0_i32_127 : BitVec 32 := 0#32
  let v194 : BitVec 1 := Scalar.cmpi .ne v193 c0_i32_127
  v194

def k0_off9 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev21 : Nat :=
  let c0_i32_505 : BitVec 32 := 0#32
  let c4_i32_503 : BitVec 32 := 4#32
  let c1_i32_504 : BitVec 32 := 1#32
  let v714 : BitVec 32 := Scalar.muli c4_i32_503 c1_i32_504
  let v715 : BitVec 32 := Scalar.addi c0_i32_505 v714
  v715.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v195 : BitVec 1 := Scalar.cmpi .ne v2 c5_i32_128
  let v196 : BitVec 32 := Scalar.extui v195
  let c0_i32_129 : BitVec 32 := 0#32
  let v197 : BitVec 1 := Scalar.cmpi .ne v196 c0_i32_129
  v197

def k0_off11 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev22 : Nat :=
  let c0_i32_505 : BitVec 32 := 0#32
  let c5_i32_503 : BitVec 32 := 5#32
  let c1_i32_504 : BitVec 32 := 1#32
  let v714 : BitVec 32 := Scalar.muli c5_i32_503 c1_i32_504
  let v715 : BitVec 32 := Scalar.addi c0_i32_505 v714
  v715.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v198 : BitVec 1 := Scalar.cmpi .ne v2 c6_i32_130
  let v199 : BitVec 32 := Scalar.extui v198
  let c0_i32_131 : BitVec 32 := 0#32
  let v200 : BitVec 1 := Scalar.cmpi .ne v199 c0_i32_131
  v200

def k0_off13 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev23 : Nat :=
  let c0_i32_505 : BitVec 32 := 0#32
  let c6_i32_503 : BitVec 32 := 6#32
  let c1_i32_504 : BitVec 32 := 1#32
  let v714 : BitVec 32 := Scalar.muli c6_i32_503 c1_i32_504
  let v715 : BitVec 32 := Scalar.addi c0_i32_505 v714
  v715.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v201 : BitVec 1 := Scalar.cmpi .ne v2 c7_i32_132
  let v202 : BitVec 32 := Scalar.extui v201
  let c0_i32_133 : BitVec 32 := 0#32
  let v203 : BitVec 1 := Scalar.cmpi .ne v202 c0_i32_133
  v203

def k0_off15 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev24 : Nat :=
  let c0_i32_505 : BitVec 32 := 0#32
  let c7_i32_503 : BitVec 32 := 7#32
  let c1_i32_504 : BitVec 32 := 1#32
  let v714 : BitVec 32 := Scalar.muli c7_i32_503 c1_i32_504
  let v715 : BitVec 32 := Scalar.addi c0_i32_505 v714
  v715.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v204 : BitVec 1 := Scalar.cmpi .ne v2 c8_i32_134
  let v205 : BitVec 32 := Scalar.extui v204
  let c0_i32_135 : BitVec 32 := 0#32
  let v206 : BitVec 1 := Scalar.cmpi .ne v205 c0_i32_135
  v206

def k0_off17 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev25 : Nat :=
  let c0_i32_505 : BitVec 32 := 0#32
  let c8_i32_503 : BitVec 32 := 8#32
  let c1_i32_504 : BitVec 32 := 1#32
  let v714 : BitVec 32 := Scalar.muli c8_i32_503 c1_i32_504
  let v715 : BitVec 32 := Scalar.addi c0_i32_505 v714
  v715.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v207 : BitVec 1 := Scalar.cmpi .ne v2 c9_i32_136
  let v208 : BitVec 32 := Scalar.extui v207
  let c0_i32_137 : BitVec 32 := 0#32
  let v209 : BitVec 1 := Scalar.cmpi .ne v208 c0_i32_137
  v209

def k0_off19 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev26 : Nat :=
  let c0_i32_505 : BitVec 32 := 0#32
  let c9_i32_503 : BitVec 32 := 9#32
  let c1_i32_504 : BitVec 32 := 1#32
  let v714 : BitVec 32 := Scalar.muli c9_i32_503 c1_i32_504
  let v715 : BitVec 32 := Scalar.addi c0_i32_505 v714
  v715.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v210 : BitVec 1 := Scalar.cmpi .ne v2 c10_i32_138
  let v211 : BitVec 32 := Scalar.extui v210
  let c0_i32_139 : BitVec 32 := 0#32
  let v212 : BitVec 1 := Scalar.cmpi .ne v211 c0_i32_139
  v212

def k0_off21 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev27 : Nat :=
  let c0_i32_505 : BitVec 32 := 0#32
  let c10_i32_503 : BitVec 32 := 10#32
  let c1_i32_504 : BitVec 32 := 1#32
  let v714 : BitVec 32 := Scalar.muli c10_i32_503 c1_i32_504
  let v715 : BitVec 32 := Scalar.addi c0_i32_505 v714
  v715.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v213 : BitVec 1 := Scalar.cmpi .ne v2 c11_i32_140
  let v214 : BitVec 32 := Scalar.extui v213
  let c0_i32_141 : BitVec 32 := 0#32
  let v215 : BitVec 1 := Scalar.cmpi .ne v214 c0_i32_141
  v215

def k0_off23 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev28 : Nat :=
  let c0_i32_505 : BitVec 32 := 0#32
  let c11_i32_503 : BitVec 32 := 11#32
  let c1_i32_504 : BitVec 32 := 1#32
  let v714 : BitVec 32 := Scalar.muli c11_i32_503 c1_i32_504
  let v715 : BitVec 32 := Scalar.addi c0_i32_505 v714
  v715.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v216 : BitVec 1 := Scalar.cmpi .ne v2 c12_i32_142
  let v217 : BitVec 32 := Scalar.extui v216
  let c0_i32_143 : BitVec 32 := 0#32
  let v218 : BitVec 1 := Scalar.cmpi .ne v217 c0_i32_143
  v218

def k0_off25 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev29 : Nat :=
  let c0_i32_505 : BitVec 32 := 0#32
  let c12_i32_503 : BitVec 32 := 12#32
  let c1_i32_504 : BitVec 32 := 1#32
  let v714 : BitVec 32 := Scalar.muli c12_i32_503 c1_i32_504
  let v715 : BitVec 32 := Scalar.addi c0_i32_505 v714
  v715.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v219 : BitVec 1 := Scalar.cmpi .ne v2 c13_i32_144
  let v220 : BitVec 32 := Scalar.extui v219
  let c0_i32_145 : BitVec 32 := 0#32
  let v221 : BitVec 1 := Scalar.cmpi .ne v220 c0_i32_145
  v221

def k0_off27 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev30 : Nat :=
  let c0_i32_505 : BitVec 32 := 0#32
  let c13_i32_503 : BitVec 32 := 13#32
  let c1_i32_504 : BitVec 32 := 1#32
  let v714 : BitVec 32 := Scalar.muli c13_i32_503 c1_i32_504
  let v715 : BitVec 32 := Scalar.addi c0_i32_505 v714
  v715.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v222 : BitVec 1 := Scalar.cmpi .ne v2 c14_i32_146
  let v223 : BitVec 32 := Scalar.extui v222
  let c0_i32_147 : BitVec 32 := 0#32
  let v224 : BitVec 1 := Scalar.cmpi .ne v223 c0_i32_147
  v224

def k0_off29 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev31 : Nat :=
  let c0_i32_505 : BitVec 32 := 0#32
  let c14_i32_503 : BitVec 32 := 14#32
  let c1_i32_504 : BitVec 32 := 1#32
  let v714 : BitVec 32 := Scalar.muli c14_i32_503 c1_i32_504
  let v715 : BitVec 32 := Scalar.addi c0_i32_505 v714
  v715.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v225 : BitVec 1 := Scalar.cmpi .ne v2 c15_i32_148
  let v226 : BitVec 32 := Scalar.extui v225
  let c0_i32_149 : BitVec 32 := 0#32
  let v227 : BitVec 1 := Scalar.cmpi .ne v226 c0_i32_149
  v227

def k0_off31 (d0 : Dev nD) : Fin 2 → Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c0_i32_507 : BitVec 32 := 0#32
  ![v2.toNat, 0, 0]
def k0_dev32 : Nat :=
  let c0_i32_505 : BitVec 32 := 0#32
  let c15_i32_503 : BitVec 32 := 15#32
  let c1_i32_504 : BitVec 32 := 1#32
  let v714 : BitVec 32 := Scalar.muli c15_i32_503 c1_i32_504
  let v715 : BitVec 32 := Scalar.addi c0_i32_505 v714
  v715.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_218 : BitVec 32 := 0#32
  let v324 : BitVec 1 := Scalar.cmpi .ne v2 c0_i32_218
  let v325 : BitVec 32 := Scalar.extui v324
  let c0_i32_219 : BitVec 32 := 0#32
  let v326 : BitVec 1 := Scalar.cmpi .ne v325 c0_i32_219
  v326

def k0_off33 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev33 : Nat :=
  let c0_i32_505 : BitVec 32 := 0#32
  let c0_i32_503 : BitVec 32 := 0#32
  let c1_i32_504 : BitVec 32 := 1#32
  let v714 : BitVec 32 := Scalar.muli c0_i32_503 c1_i32_504
  let v715 : BitVec 32 := Scalar.addi c0_i32_505 v714
  v715.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_220 : BitVec 32 := 1#32
  let v327 : BitVec 1 := Scalar.cmpi .ne v2 c1_i32_220
  let v328 : BitVec 32 := Scalar.extui v327
  let c0_i32_221 : BitVec 32 := 0#32
  let v329 : BitVec 1 := Scalar.cmpi .ne v328 c0_i32_221
  v329

def k0_off35 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev34 : Nat :=
  let c0_i32_505 : BitVec 32 := 0#32
  let c1_i32_503 : BitVec 32 := 1#32
  let c1_i32_504 : BitVec 32 := 1#32
  let v714 : BitVec 32 := Scalar.muli c1_i32_503 c1_i32_504
  let v715 : BitVec 32 := Scalar.addi c0_i32_505 v714
  v715.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_222 : BitVec 32 := 2#32
  let v330 : BitVec 1 := Scalar.cmpi .ne v2 c2_i32_222
  let v331 : BitVec 32 := Scalar.extui v330
  let c0_i32_223 : BitVec 32 := 0#32
  let v332 : BitVec 1 := Scalar.cmpi .ne v331 c0_i32_223
  v332

def k0_off37 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev35 : Nat :=
  let c0_i32_505 : BitVec 32 := 0#32
  let c2_i32_503 : BitVec 32 := 2#32
  let c1_i32_504 : BitVec 32 := 1#32
  let v714 : BitVec 32 := Scalar.muli c2_i32_503 c1_i32_504
  let v715 : BitVec 32 := Scalar.addi c0_i32_505 v714
  v715.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v333 : BitVec 1 := Scalar.cmpi .ne v2 c3_i32_224
  let v334 : BitVec 32 := Scalar.extui v333
  let c0_i32_225 : BitVec 32 := 0#32
  let v335 : BitVec 1 := Scalar.cmpi .ne v334 c0_i32_225
  v335

def k0_off39 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev36 : Nat :=
  let c0_i32_505 : BitVec 32 := 0#32
  let c3_i32_503 : BitVec 32 := 3#32
  let c1_i32_504 : BitVec 32 := 1#32
  let v714 : BitVec 32 := Scalar.muli c3_i32_503 c1_i32_504
  let v715 : BitVec 32 := Scalar.addi c0_i32_505 v714
  v715.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_226 : BitVec 32 := 4#32
  let v336 : BitVec 1 := Scalar.cmpi .ne v2 c4_i32_226
  let v337 : BitVec 32 := Scalar.extui v336
  let c0_i32_227 : BitVec 32 := 0#32
  let v338 : BitVec 1 := Scalar.cmpi .ne v337 c0_i32_227
  v338

def k0_off41 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev37 : Nat :=
  let c0_i32_505 : BitVec 32 := 0#32
  let c4_i32_503 : BitVec 32 := 4#32
  let c1_i32_504 : BitVec 32 := 1#32
  let v714 : BitVec 32 := Scalar.muli c4_i32_503 c1_i32_504
  let v715 : BitVec 32 := Scalar.addi c0_i32_505 v714
  v715.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_228 : BitVec 32 := 5#32
  let v339 : BitVec 1 := Scalar.cmpi .ne v2 c5_i32_228
  let v340 : BitVec 32 := Scalar.extui v339
  let c0_i32_229 : BitVec 32 := 0#32
  let v341 : BitVec 1 := Scalar.cmpi .ne v340 c0_i32_229
  v341

def k0_off43 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev38 : Nat :=
  let c0_i32_505 : BitVec 32 := 0#32
  let c5_i32_503 : BitVec 32 := 5#32
  let c1_i32_504 : BitVec 32 := 1#32
  let v714 : BitVec 32 := Scalar.muli c5_i32_503 c1_i32_504
  let v715 : BitVec 32 := Scalar.addi c0_i32_505 v714
  v715.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_230 : BitVec 32 := 6#32
  let v342 : BitVec 1 := Scalar.cmpi .ne v2 c6_i32_230
  let v343 : BitVec 32 := Scalar.extui v342
  let c0_i32_231 : BitVec 32 := 0#32
  let v344 : BitVec 1 := Scalar.cmpi .ne v343 c0_i32_231
  v344

def k0_off45 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev39 : Nat :=
  let c0_i32_505 : BitVec 32 := 0#32
  let c6_i32_503 : BitVec 32 := 6#32
  let c1_i32_504 : BitVec 32 := 1#32
  let v714 : BitVec 32 := Scalar.muli c6_i32_503 c1_i32_504
  let v715 : BitVec 32 := Scalar.addi c0_i32_505 v714
  v715.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_232 : BitVec 32 := 7#32
  let v345 : BitVec 1 := Scalar.cmpi .ne v2 c7_i32_232
  let v346 : BitVec 32 := Scalar.extui v345
  let c0_i32_233 : BitVec 32 := 0#32
  let v347 : BitVec 1 := Scalar.cmpi .ne v346 c0_i32_233
  v347

def k0_off47 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev40 : Nat :=
  let c0_i32_505 : BitVec 32 := 0#32
  let c7_i32_503 : BitVec 32 := 7#32
  let c1_i32_504 : BitVec 32 := 1#32
  let v714 : BitVec 32 := Scalar.muli c7_i32_503 c1_i32_504
  let v715 : BitVec 32 := Scalar.addi c0_i32_505 v714
  v715.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_234 : BitVec 32 := 8#32
  let v348 : BitVec 1 := Scalar.cmpi .ne v2 c8_i32_234
  let v349 : BitVec 32 := Scalar.extui v348
  let c0_i32_235 : BitVec 32 := 0#32
  let v350 : BitVec 1 := Scalar.cmpi .ne v349 c0_i32_235
  v350

def k0_off49 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev41 : Nat :=
  let c0_i32_505 : BitVec 32 := 0#32
  let c8_i32_503 : BitVec 32 := 8#32
  let c1_i32_504 : BitVec 32 := 1#32
  let v714 : BitVec 32 := Scalar.muli c8_i32_503 c1_i32_504
  let v715 : BitVec 32 := Scalar.addi c0_i32_505 v714
  v715.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_236 : BitVec 32 := 9#32
  let v351 : BitVec 1 := Scalar.cmpi .ne v2 c9_i32_236
  let v352 : BitVec 32 := Scalar.extui v351
  let c0_i32_237 : BitVec 32 := 0#32
  let v353 : BitVec 1 := Scalar.cmpi .ne v352 c0_i32_237
  v353

def k0_off51 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev42 : Nat :=
  let c0_i32_505 : BitVec 32 := 0#32
  let c9_i32_503 : BitVec 32 := 9#32
  let c1_i32_504 : BitVec 32 := 1#32
  let v714 : BitVec 32 := Scalar.muli c9_i32_503 c1_i32_504
  let v715 : BitVec 32 := Scalar.addi c0_i32_505 v714
  v715.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_238 : BitVec 32 := 10#32
  let v354 : BitVec 1 := Scalar.cmpi .ne v2 c10_i32_238
  let v355 : BitVec 32 := Scalar.extui v354
  let c0_i32_239 : BitVec 32 := 0#32
  let v356 : BitVec 1 := Scalar.cmpi .ne v355 c0_i32_239
  v356

def k0_off53 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev43 : Nat :=
  let c0_i32_505 : BitVec 32 := 0#32
  let c10_i32_503 : BitVec 32 := 10#32
  let c1_i32_504 : BitVec 32 := 1#32
  let v714 : BitVec 32 := Scalar.muli c10_i32_503 c1_i32_504
  let v715 : BitVec 32 := Scalar.addi c0_i32_505 v714
  v715.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_240 : BitVec 32 := 11#32
  let v357 : BitVec 1 := Scalar.cmpi .ne v2 c11_i32_240
  let v358 : BitVec 32 := Scalar.extui v357
  let c0_i32_241 : BitVec 32 := 0#32
  let v359 : BitVec 1 := Scalar.cmpi .ne v358 c0_i32_241
  v359

def k0_off55 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev44 : Nat :=
  let c0_i32_505 : BitVec 32 := 0#32
  let c11_i32_503 : BitVec 32 := 11#32
  let c1_i32_504 : BitVec 32 := 1#32
  let v714 : BitVec 32 := Scalar.muli c11_i32_503 c1_i32_504
  let v715 : BitVec 32 := Scalar.addi c0_i32_505 v714
  v715.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_242 : BitVec 32 := 12#32
  let v360 : BitVec 1 := Scalar.cmpi .ne v2 c12_i32_242
  let v361 : BitVec 32 := Scalar.extui v360
  let c0_i32_243 : BitVec 32 := 0#32
  let v362 : BitVec 1 := Scalar.cmpi .ne v361 c0_i32_243
  v362

def k0_off57 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev45 : Nat :=
  let c0_i32_505 : BitVec 32 := 0#32
  let c12_i32_503 : BitVec 32 := 12#32
  let c1_i32_504 : BitVec 32 := 1#32
  let v714 : BitVec 32 := Scalar.muli c12_i32_503 c1_i32_504
  let v715 : BitVec 32 := Scalar.addi c0_i32_505 v714
  v715.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_244 : BitVec 32 := 13#32
  let v363 : BitVec 1 := Scalar.cmpi .ne v2 c13_i32_244
  let v364 : BitVec 32 := Scalar.extui v363
  let c0_i32_245 : BitVec 32 := 0#32
  let v365 : BitVec 1 := Scalar.cmpi .ne v364 c0_i32_245
  v365

def k0_off59 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev46 : Nat :=
  let c0_i32_505 : BitVec 32 := 0#32
  let c13_i32_503 : BitVec 32 := 13#32
  let c1_i32_504 : BitVec 32 := 1#32
  let v714 : BitVec 32 := Scalar.muli c13_i32_503 c1_i32_504
  let v715 : BitVec 32 := Scalar.addi c0_i32_505 v714
  v715.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_246 : BitVec 32 := 14#32
  let v366 : BitVec 1 := Scalar.cmpi .ne v2 c14_i32_246
  let v367 : BitVec 32 := Scalar.extui v366
  let c0_i32_247 : BitVec 32 := 0#32
  let v368 : BitVec 1 := Scalar.cmpi .ne v367 c0_i32_247
  v368

def k0_off61 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev47 : Nat :=
  let c0_i32_505 : BitVec 32 := 0#32
  let c14_i32_503 : BitVec 32 := 14#32
  let c1_i32_504 : BitVec 32 := 1#32
  let v714 : BitVec 32 := Scalar.muli c14_i32_503 c1_i32_504
  let v715 : BitVec 32 := Scalar.addi c0_i32_505 v714
  v715.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_248 : BitVec 32 := 15#32
  let v369 : BitVec 1 := Scalar.cmpi .ne v2 c15_i32_248
  let v370 : BitVec 32 := Scalar.extui v369
  let c0_i32_249 : BitVec 32 := 0#32
  let v371 : BitVec 1 := Scalar.cmpi .ne v370 c0_i32_249
  v371

def k0_off63 (d0 : Dev nD) : Fin 2 → Nat :=
  let c1_i32_500 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_506 : BitVec 32 := 0#32
  let c1024_i32_507 : BitVec 32 := 1024#32
  ![v2.toNat, 0, 1024]
def k0_dev48 : Nat :=
  let c0_i32_505 : BitVec 32 := 0#32
  let c15_i32_503 : BitVec 32 := 15#32
  let c1_i32_504 : BitVec 32 := 1#32
  let v714 : BitVec 32 := Scalar.muli c15_i32_503 c1_i32_504
  let v715 : BitVec 32 := Scalar.addi c0_i32_505 v714
  v715.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_436 : BitVec 32 := 0#32
  let v618 : BitVec 1 := Scalar.cmpi .ne v2 c0_i32_436
  let v619 : BitVec 32 := Scalar.extui v618
  let c0_i32_437 : BitVec 32 := 0#32
  let v620 : BitVec 1 := Scalar.cmpi .ne v619 c0_i32_437
  v620

def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_438 : BitVec 32 := 1#32
  let v621 : BitVec 1 := Scalar.cmpi .ne v2 c1_i32_438
  let v622 : BitVec 32 := Scalar.extui v621
  let c0_i32_439 : BitVec 32 := 0#32
  let v623 : BitVec 1 := Scalar.cmpi .ne v622 c0_i32_439
  v623

def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_440 : BitVec 32 := 2#32
  let v624 : BitVec 1 := Scalar.cmpi .ne v2 c2_i32_440
  let v625 : BitVec 32 := Scalar.extui v624
  let c0_i32_441 : BitVec 32 := 0#32
  let v626 : BitVec 1 := Scalar.cmpi .ne v625 c0_i32_441
  v626

def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_442 : BitVec 32 := 3#32
  let v627 : BitVec 1 := Scalar.cmpi .ne v2 c3_i32_442
  let v628 : BitVec 32 := Scalar.extui v627
  let c0_i32_443 : BitVec 32 := 0#32
  let v629 : BitVec 1 := Scalar.cmpi .ne v628 c0_i32_443
  v629

def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_444 : BitVec 32 := 4#32
  let v630 : BitVec 1 := Scalar.cmpi .ne v2 c4_i32_444
  let v631 : BitVec 32 := Scalar.extui v630
  let c0_i32_445 : BitVec 32 := 0#32
  let v632 : BitVec 1 := Scalar.cmpi .ne v631 c0_i32_445
  v632

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_446 : BitVec 32 := 5#32
  let v633 : BitVec 1 := Scalar.cmpi .ne v2 c5_i32_446
  let v634 : BitVec 32 := Scalar.extui v633
  let c0_i32_447 : BitVec 32 := 0#32
  let v635 : BitVec 1 := Scalar.cmpi .ne v634 c0_i32_447
  v635

def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_448 : BitVec 32 := 6#32
  let v636 : BitVec 1 := Scalar.cmpi .ne v2 c6_i32_448
  let v637 : BitVec 32 := Scalar.extui v636
  let c0_i32_449 : BitVec 32 := 0#32
  let v638 : BitVec 1 := Scalar.cmpi .ne v637 c0_i32_449
  v638

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_450 : BitVec 32 := 7#32
  let v639 : BitVec 1 := Scalar.cmpi .ne v2 c7_i32_450
  let v640 : BitVec 32 := Scalar.extui v639
  let c0_i32_451 : BitVec 32 := 0#32
  let v641 : BitVec 1 := Scalar.cmpi .ne v640 c0_i32_451
  v641

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_452 : BitVec 32 := 8#32
  let v642 : BitVec 1 := Scalar.cmpi .ne v2 c8_i32_452
  let v643 : BitVec 32 := Scalar.extui v642
  let c0_i32_453 : BitVec 32 := 0#32
  let v644 : BitVec 1 := Scalar.cmpi .ne v643 c0_i32_453
  v644

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_454 : BitVec 32 := 9#32
  let v645 : BitVec 1 := Scalar.cmpi .ne v2 c9_i32_454
  let v646 : BitVec 32 := Scalar.extui v645
  let c0_i32_455 : BitVec 32 := 0#32
  let v647 : BitVec 1 := Scalar.cmpi .ne v646 c0_i32_455
  v647

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_456 : BitVec 32 := 10#32
  let v648 : BitVec 1 := Scalar.cmpi .ne v2 c10_i32_456
  let v649 : BitVec 32 := Scalar.extui v648
  let c0_i32_457 : BitVec 32 := 0#32
  let v650 : BitVec 1 := Scalar.cmpi .ne v649 c0_i32_457
  v650

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_458 : BitVec 32 := 11#32
  let v651 : BitVec 1 := Scalar.cmpi .ne v2 c11_i32_458
  let v652 : BitVec 32 := Scalar.extui v651
  let c0_i32_459 : BitVec 32 := 0#32
  let v653 : BitVec 1 := Scalar.cmpi .ne v652 c0_i32_459
  v653

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_460 : BitVec 32 := 12#32
  let v654 : BitVec 1 := Scalar.cmpi .ne v2 c12_i32_460
  let v655 : BitVec 32 := Scalar.extui v654
  let c0_i32_461 : BitVec 32 := 0#32
  let v656 : BitVec 1 := Scalar.cmpi .ne v655 c0_i32_461
  v656

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_462 : BitVec 32 := 13#32
  let v657 : BitVec 1 := Scalar.cmpi .ne v2 c13_i32_462
  let v658 : BitVec 32 := Scalar.extui v657
  let c0_i32_463 : BitVec 32 := 0#32
  let v659 : BitVec 1 := Scalar.cmpi .ne v658 c0_i32_463
  v659

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_464 : BitVec 32 := 14#32
  let v660 : BitVec 1 := Scalar.cmpi .ne v2 c14_i32_464
  let v661 : BitVec 32 := Scalar.extui v660
  let c0_i32_465 : BitVec 32 := 0#32
  let v662 : BitVec 1 := Scalar.cmpi .ne v661 c0_i32_465
  v662

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_466 : BitVec 32 := 15#32
  let v663 : BitVec 1 := Scalar.cmpi .ne v2 c15_i32_466
  let v664 : BitVec 32 := Scalar.extui v663
  let c0_i32_467 : BitVec 32 := 0#32
  let v665 : BitVec 1 := Scalar.cmpi .ne v664 c0_i32_467
  v665

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c0_i32_508 : BitVec 32 := 0#32
  ![v2.toNat, 0, 0]
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_468 : BitVec 32 := 0#32
  let v666 : BitVec 1 := Scalar.cmpi .ne v2 c0_i32_468
  let v667 : BitVec 32 := Scalar.extui v666
  let c0_i32_469 : BitVec 32 := 0#32
  let v668 : BitVec 1 := Scalar.cmpi .ne v667 c0_i32_469
  v668

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_470 : BitVec 32 := 1#32
  let v669 : BitVec 1 := Scalar.cmpi .ne v2 c1_i32_470
  let v670 : BitVec 32 := Scalar.extui v669
  let c0_i32_471 : BitVec 32 := 0#32
  let v671 : BitVec 1 := Scalar.cmpi .ne v670 c0_i32_471
  v671

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_472 : BitVec 32 := 2#32
  let v672 : BitVec 1 := Scalar.cmpi .ne v2 c2_i32_472
  let v673 : BitVec 32 := Scalar.extui v672
  let c0_i32_473 : BitVec 32 := 0#32
  let v674 : BitVec 1 := Scalar.cmpi .ne v673 c0_i32_473
  v674

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_474 : BitVec 32 := 3#32
  let v675 : BitVec 1 := Scalar.cmpi .ne v2 c3_i32_474
  let v676 : BitVec 32 := Scalar.extui v675
  let c0_i32_475 : BitVec 32 := 0#32
  let v677 : BitVec 1 := Scalar.cmpi .ne v676 c0_i32_475
  v677

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_476 : BitVec 32 := 4#32
  let v678 : BitVec 1 := Scalar.cmpi .ne v2 c4_i32_476
  let v679 : BitVec 32 := Scalar.extui v678
  let c0_i32_477 : BitVec 32 := 0#32
  let v680 : BitVec 1 := Scalar.cmpi .ne v679 c0_i32_477
  v680

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_478 : BitVec 32 := 5#32
  let v681 : BitVec 1 := Scalar.cmpi .ne v2 c5_i32_478
  let v682 : BitVec 32 := Scalar.extui v681
  let c0_i32_479 : BitVec 32 := 0#32
  let v683 : BitVec 1 := Scalar.cmpi .ne v682 c0_i32_479
  v683

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_480 : BitVec 32 := 6#32
  let v684 : BitVec 1 := Scalar.cmpi .ne v2 c6_i32_480
  let v685 : BitVec 32 := Scalar.extui v684
  let c0_i32_481 : BitVec 32 := 0#32
  let v686 : BitVec 1 := Scalar.cmpi .ne v685 c0_i32_481
  v686

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_482 : BitVec 32 := 7#32
  let v687 : BitVec 1 := Scalar.cmpi .ne v2 c7_i32_482
  let v688 : BitVec 32 := Scalar.extui v687
  let c0_i32_483 : BitVec 32 := 0#32
  let v689 : BitVec 1 := Scalar.cmpi .ne v688 c0_i32_483
  v689

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_484 : BitVec 32 := 8#32
  let v690 : BitVec 1 := Scalar.cmpi .ne v2 c8_i32_484
  let v691 : BitVec 32 := Scalar.extui v690
  let c0_i32_485 : BitVec 32 := 0#32
  let v692 : BitVec 1 := Scalar.cmpi .ne v691 c0_i32_485
  v692

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_486 : BitVec 32 := 9#32
  let v693 : BitVec 1 := Scalar.cmpi .ne v2 c9_i32_486
  let v694 : BitVec 32 := Scalar.extui v693
  let c0_i32_487 : BitVec 32 := 0#32
  let v695 : BitVec 1 := Scalar.cmpi .ne v694 c0_i32_487
  v695

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_488 : BitVec 32 := 10#32
  let v696 : BitVec 1 := Scalar.cmpi .ne v2 c10_i32_488
  let v697 : BitVec 32 := Scalar.extui v696
  let c0_i32_489 : BitVec 32 := 0#32
  let v698 : BitVec 1 := Scalar.cmpi .ne v697 c0_i32_489
  v698

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_490 : BitVec 32 := 11#32
  let v699 : BitVec 1 := Scalar.cmpi .ne v2 c11_i32_490
  let v700 : BitVec 32 := Scalar.extui v699
  let c0_i32_491 : BitVec 32 := 0#32
  let v701 : BitVec 1 := Scalar.cmpi .ne v700 c0_i32_491
  v701

def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_492 : BitVec 32 := 12#32
  let v702 : BitVec 1 := Scalar.cmpi .ne v2 c12_i32_492
  let v703 : BitVec 32 := Scalar.extui v702
  let c0_i32_493 : BitVec 32 := 0#32
  let v704 : BitVec 1 := Scalar.cmpi .ne v703 c0_i32_493
  v704

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_494 : BitVec 32 := 13#32
  let v705 : BitVec 1 := Scalar.cmpi .ne v2 c13_i32_494
  let v706 : BitVec 32 := Scalar.extui v705
  let c0_i32_495 : BitVec 32 := 0#32
  let v707 : BitVec 1 := Scalar.cmpi .ne v706 c0_i32_495
  v707

def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_496 : BitVec 32 := 14#32
  let v708 : BitVec 1 := Scalar.cmpi .ne v2 c14_i32_496
  let v709 : BitVec 32 := Scalar.extui v708
  let c0_i32_497 : BitVec 32 := 0#32
  let v710 : BitVec 1 := Scalar.cmpi .ne v709 c0_i32_497
  v710

def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_498 : BitVec 32 := 15#32
  let v711 : BitVec 1 := Scalar.cmpi .ne v2 c15_i32_498
  let v712 : BitVec 32 := Scalar.extui v711
  let c0_i32_499 : BitVec 32 := 0#32
  let v713 : BitVec 1 := Scalar.cmpi .ne v712 c0_i32_499
  v713

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_507 : BitVec 32 := 0#32
  let c1024_i32_508 : BitVec 32 := 1024#32
  ![v2.toNat, 0, 1024]
-- ==== ReferenceIdeal.lean ====
abbrev S2048x32768 : Shape := ⟨2, ![2048, 32768]⟩
abbrev S_ : Shape := ⟨0, ![]⟩
abbrev S2048 : Shape := ⟨1, ![2048]⟩
abbrev S2048x1 : Shape := ⟨2, ![2048, 1]⟩

abbrev nBuf : Space → Nat
  | .hbm => 13
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x32768, .f32⟩
  | .hbm, ⟨5, _⟩ => ⟨S2048x32768, .f32⟩
  | .hbm, ⟨6, _⟩ => ⟨S2048x32768, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x32768, .f32⟩
  | .hbm, ⟨11, _⟩ => ⟨S2048x32768, .f32⟩
  | .hbm, ⟨12, _⟩ => ⟨S2048x32768, .bf16⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Layout.lean ====
/-
# The buffers of a device: their rectangles, contents and element sets

Every device holds its block of `x`, a copy of it in fast memory, one row of exponential sums (`2048` of them, one
per row of the block), a table that collects all sixteen devices' rows of sums, and the result. This module names
the rectangles in which the kernel reads and writes those buffers, the contents they take in a run, and the facts
that connect the two: each rectangle written holds the named contents, and the rectangles of a buffer are disjoint
and cover it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.ValueIdxCore
public import Idealize.ShloMosaic.Lib.ValueLayout
public import Idealize.ShloMosaic.Lib.Tactic

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The buffers -/

/-- The device's block of `x` (the argument). -/
abbrev A0 : Memref sig .tc .hbm S2048x2048 .f32 := Memref.whole main_arg0
/-- The device's block of the result. -/
abbrev V1 : Memref sig .tc .hbm S2048x2048 .bf16 := Memref.whole main_v1
/-- The copy of the block of `x`. -/
abbrev XF : Memref sig .tc .vmem S2048x2048 .f32 := Memref.whole cc0_scratch0
/-- The staging copy of the result. -/
abbrev OB : Memref sig .tc .vmem S2048x2048 .bf16 := Memref.whole cc0_scratch1
/-- The device's row of sums. -/
abbrev SP : Memref sig .tc .vmem S1x2048 .f32 := Memref.whole cc0_scratch2
/-- The table of all devices' rows of sums. -/
abbrev GM : Memref sig .tc .vmem S16x1x2048 .f32 := Memref.whole cc0_scratch3

/-! ## The rectangles -/

theorem row_inb (b : Fin 8) : ∀ a, (![256 * b.val, 0] : Fin 2 → ℕ) a + S256x2048.size a ≤ S2048x2048.size a := by revert b; decide
theorem col_inb (b : Fin 8) : ∀ a, (![0, 256 * b.val] : Fin 2 → ℕ) a + S1x256.size a ≤ S1x2048.size a := by revert b; decide
theorem half_inb (h : Fin 2) : ∀ a, (![0, 1024 * h.val] : Fin 2 → ℕ) a + S1x1024.size a ≤ S1x2048.size a := by revert h; decide
theorem slot_inb (p : Dev nD) (h : Fin 2) : ∀ a, (![p.val, 0, 1024 * h.val] : Fin 3 → ℕ) a + S1x1x1024.size a ≤ S16x1x2048.size a := by
  revert p h; decide
theorem tab_inb (h : Fin 2) : ∀ a, (![0, 0, 1024 * h.val] : Fin 3 → ℕ) a + S16x1x1024.size a ≤ S16x1x2048.size a := by revert h; decide

/-- Rows `256 b … 256 b + 255` of a block. -/
abbrev rowR (b : Fin 8) : Rect S2048x2048 := Rect.unit (s := S2048x2048) ![256 * b.val, 0] S256x2048.size (row_inb b)
/-- Entries `256 b … 256 b + 255` of the row of sums. -/
abbrev colR (b : Fin 8) : Rect S1x2048 := Rect.unit (s := S1x2048) ![0, 256 * b.val] S1x256.size (col_inb b)
/-- Half `h` of the row of sums. -/
abbrev halfR (h : Fin 2) : Rect S1x2048 := Rect.unit (s := S1x2048) ![0, 1024 * h.val] S1x1024.size (half_inb h)
/-- Half `h` of device `p`'s line of the table. -/
abbrev slotR (p : Dev nD) (h : Fin 2) : Rect S16x1x2048 := Rect.unit (s := S16x1x2048) ![p.val, 0, 1024 * h.val] S1x1x1024.size (slot_inb p h)
/-- Half `h` of the whole table. -/
abbrev tabR (h : Fin 2) : Rect S16x1x2048 := Rect.unit (s := S16x1x2048) ![0, 0, 1024 * h.val] S16x1x1024.size (tab_inb h)

/-! ## The contents -/

variable (m : (ℓ : Loc nD τ sig) → Buf (Elt F) ℓ)

/-- Device `c`'s block of `x`. -/
def xa (c : Dev nD) : S2048x2048.Idx → Elt F .f32 := m ((c : Thread nD τ).loc main_arg0)

/-- Row block `b` of it. -/
def xblk (c : Dev nD) (b : Fin 8) : Vec F S256x2048 .f32 := fun i => xa m c ((rowR b).emb i)

/-- The sums of the exponentials along the rows of row block `b`. -/
def stBlk (c : Dev nD) (b : Fin 8) : FVec F S1x256 .f32 := k0_pay1 (xblk m c b)

/-- Device `c`'s row of sums. -/
def st (c : Dev nD) : S1x2048.Idx → Elt F .f32 := fun i =>
  stBlk m c ⟨(i 1).val / 256, by have : (i 1).val < 2048 := (i 1).isLt; omega⟩ (ix2 (0 : Fin 1) (⟨(i 1).val % 256, Nat.mod_lt _ (by decide)⟩ : Fin 256))

/-- The table: device `p`'s row of sums on line `p`, the same on every device. -/
def ga : S16x1x2048.Idx → Elt F .f32 := fun i => st m (i 0) (ix2 (0 : Fin 1) (i 2))

/-- Half `h` of the table. -/
def gh (h : Fin 2) : Vec F S16x1x1024 .f32 := fun i => ga m ((tabR h).emb i)

/-- The scale of each row of half `h`: one over the sum along the whole row. -/
def sc (h : Fin 2) : FVec F S1024x1 .f32 := k0_pay42 (gh m h)

/-- The half in which row block `b` lies. -/
abbrev hOf (b : Fin 8) : Fin 2 := ⟨b.val / 4, by omega⟩

theorem sl_ok (b : Fin 8) : S1024x1.Slices ![256 * (b.val % 4), 0] S256x1 := by revert b; decide

/-- Row block `b` of the result. -/
def outBlk (c : Dev nD) (b : Fin 8) : FVec F S256x2048 .bf16 :=
  shapeCast S256x2048 (truncf .bf16 (mulf (exp (xblk m c b))
    (broadcastTo S256x2048 (extractStridedSlice S256x1 ![256 * (b.val % 4), 0] (sc m (hOf b)) (sl_ok b)) broadcasts_S256x1_S256x2048)) bitsLt_bf16_f32)
    shapeCasts_S256x2048_S256x2048

/-- Device `c`'s block of the result. -/
def out (c : Dev nD) : S2048x2048.Idx → Elt F .bf16 := fun i =>
  outBlk m c ⟨(i 0).val / 256, by have : (i 0).val < 2048 := (i 0).isLt; omega⟩
    (ix2 (⟨(i 0).val % 256, Nat.mod_lt _ (by decide)⟩ : Fin 256) (i 1))

/-! ## Indices -/

theorem st_emb (c : Dev nD) (b : Fin 8) (j : S1x256.Idx) : st m c ((colR b).emb j) = stBlk m c b j := by
  have hj : (j 1).val < 256 := (j 1).isLt
  have h1 : (((colR b).emb j) 1 : ℕ) = 256 * b.val + (j 1).val := ValueKit.rect_emb_unit_val _ _ _ _ _
  refine congrArg₂ (stBlk m c) (Fin.ext ?_) (funext fun a => ?_)
  · show (((colR b).emb j) 1 : ℕ) / 256 = b.val
    omega
  · match a with
    | ⟨0, _⟩ => exact Subsingleton.elim (α := Fin 1) _ _
    | ⟨1, _⟩ =>
      refine Fin.ext ?_
      show (((colR b).emb j) 1 : ℕ) % 256 = (j 1).val
      omega

theorem out_emb (c : Dev nD) (b : Fin 8) (j : S256x2048.Idx) : out m c ((rowR b).emb j) = outBlk m c b j := by
  have hj : (j 0).val < 256 := (j 0).isLt
  have h0 : (((rowR b).emb j) 0 : ℕ) = 256 * b.val + (j 0).val := ValueKit.rect_emb_unit_val _ _ _ _ _
  have h1 : (((rowR b).emb j) 1 : ℕ) = 0 + (j 1).val := ValueKit.rect_emb_unit_val _ _ _ _ _
  refine congrArg₂ (outBlk m c) (Fin.ext ?_) (funext fun a => ?_)
  · show (((rowR b).emb j) 0 : ℕ) / 256 = b.val
    omega
  · match a with
    | ⟨0, _⟩ =>
      refine Fin.ext ?_
      show (((rowR b).emb j) 0 : ℕ) % 256 = (j 0).val
      omega
    | ⟨1, _⟩ =>
      refine Fin.ext ?_
      show (((rowR b).emb j) 1 : ℕ) = (j 1).val
      omega

/-! ## What a read and a write through a rectangle see -/

/-- A write of `w` over the whole of a view holds, on the view's elements, any contents that read back as `w`. -/
theorem write_holds {κ : Kind} {sp : Space} {s : Shape} {e : EltTy} (v : View sig κ sp s e) (f g : v.ty.Contents (Elt F)) (w : s.Idx → Elt F e)
    (h : ∀ j, v.read (Elt F) g j = w j) : ∀ i ∈ v.set, v.write (Elt F) f w Finset.univ i = g i := by
  intro i hi
  obtain ⟨j, -, rfl⟩ := Finset.mem_map.mp hi
  rw [View.write_emb_of_mem _ _ (Finset.mem_univ j), ← h j, View.read_apply, cast_cast, cast_eq]

theorem read_xf (c : Dev nD) (b : Fin 8) : (XF.view.slice (rowR b)).read (Elt F) (xa m c) = xblk m c b := rfl
theorem read_a0 (c : Dev nD) (b : Fin 8) : (A0.view.slice (rowR b)).read (Elt F) (xa m c) = xblk m c b := rfl
theorem read_sp (c : Dev nD) (b : Fin 8) : (SP.view.slice (colR b)).read (Elt F) (st m c) = stBlk m c b := funext fun j => st_emb m c b j
theorem read_ob (c : Dev nD) (b : Fin 8) : (OB.view.slice (rowR b)).read (Elt F) (out m c) = outBlk m c b := funext fun j => out_emb m c b j
theorem read_v1 (c : Dev nD) (b : Fin 8) : (V1.view.slice (rowR b)).read (Elt F) (out m c) = outBlk m c b := funext fun j => out_emb m c b j
theorem read_gm (h : Fin 2) : (GM.view.slice (tabR h)).read (Elt F) (ga m) = gh m h := rfl

/-- Half `h` of a row of sums, as read. -/
def stHalf (c : Dev nD) (h : Fin 2) : Vec F S1x1024 .f32 := fun i => st m c ((halfR h).emb i)

theorem read_half (c : Dev nD) (h : Fin 2) : (SP.view.slice (halfR h)).read (Elt F) (st m c) = stHalf m c h := rfl

theorem ga_emb (p : Dev nD) (h : Fin 2) (a : Fin 1) (b : Fin 1024) :
    ga m ((slotR p h).emb (ix3 (0 : Fin 1) a b)) = st m p ((halfR h).emb (ix2 a b)) := by
  have h0 : (((slotR p h).emb (ix3 (0 : Fin 1) a b)) 0 : ℕ) = p.val + 0 := ValueKit.rect_emb_unit_val _ _ _ _ _
  have h2 : (((slotR p h).emb (ix3 (0 : Fin 1) a b)) 2 : ℕ) = 1024 * h.val + b.val := ValueKit.rect_emb_unit_val _ _ _ _ _
  have h1 : (((halfR h).emb (ix2 a b)) 1 : ℕ) = 1024 * h.val + b.val := ValueKit.rect_emb_unit_val _ _ _ _ _
  refine congrArg₂ (st m) (Fin.ext h0) (funext fun x => ?_)
  match x with
  | ⟨0, _⟩ => exact Subsingleton.elim (α := Fin 1) _ _
  | ⟨1, _⟩ => exact Fin.ext (h2.trans h1.symm)

/-- Line `p` of the table reads, under the shape the transfers use, as device `p`'s row of sums. -/
theorem read_slot (p : Dev nD) (h : Fin 2) :
    ((GM.view.slice (slotR p h)).reshape S1x1024 squeezes_S1x1x1024_S1x1024.numel_eq).read (Elt F) (ga m) = stHalf m p h := by
  funext j
  have e : j = ix2 (j 0) (j 1) := eq_ix2 j
  rw [e]
  have hr := reshapeEquiv_ix2_1ab (a := 1) (b := 1024) squeezes_S1x1x1024_S1x1024.numel_eq (j 0) (j 1)
  refine Eq.trans ?_ (ga_emb m p h (j 0) (j 1))
  exact congrArg (fun z => ga m ((slotR p h).emb z)) hr

/-- and under its own shape as that row re-shaped. -/
theorem read_slot3 (p : Dev nD) (h : Fin 2) : (GM.view.slice (slotR p h)).read (Elt F) (ga m) = k0_pay5 (stHalf m p h) := by
  funext j
  have e : j = ix3 (j 0) (j 1) (j 2) := eq_ix3 j
  rw [e]
  have h0 : j 0 = (0 : Fin 1) := Subsingleton.elim (α := Fin 1) _ _
  rw [h0]
  refine (ga_emb m p h (j 1) (j 2)).trans (Eq.symm ?_)
  exact shapeCast_ab_1ab_apply (a := 1) (b := 1024) (stHalf m p h) shapeCasts_S1x1024_S1x1x1024 _ _ _

/-! ## The pieces of a buffer -/

theorem mem_row (b : Fin 8) (i : S2048x2048.Idx) : i ∈ (rowR b).set ↔ 256 * b.val ≤ (i 0).val ∧ (i 0).val < 256 * b.val + 256 := by
  have h1 : (i 1).val < 2048 := (i 1).isLt
  rw [Rect.mem_set_unit, Fin.forall_fin_two]
  show (256 * b.val ≤ (i 0).val ∧ (i 0).val < 256 * b.val + 256) ∧ (0 ≤ (i 1).val ∧ (i 1).val < 0 + 2048) ↔ _
  omega
theorem mem_col (b : Fin 8) (i : S1x2048.Idx) : i ∈ (colR b).set ↔ 256 * b.val ≤ (i 1).val ∧ (i 1).val < 256 * b.val + 256 := by
  have h1 : (i 0).val < 1 := (i 0).isLt
  rw [Rect.mem_set_unit, Fin.forall_fin_two]
  show (0 ≤ (i 0).val ∧ (i 0).val < 0 + 1) ∧ (256 * b.val ≤ (i 1).val ∧ (i 1).val < 256 * b.val + 256) ↔ _
  omega
theorem mem_half (h : Fin 2) (i : S1x2048.Idx) : i ∈ (halfR h).set ↔ 1024 * h.val ≤ (i 1).val ∧ (i 1).val < 1024 * h.val + 1024 := by
  have h1 : (i 0).val < 1 := (i 0).isLt
  rw [Rect.mem_set_unit, Fin.forall_fin_two]
  show (0 ≤ (i 0).val ∧ (i 0).val < 0 + 1) ∧ (1024 * h.val ≤ (i 1).val ∧ (i 1).val < 1024 * h.val + 1024) ↔ _
  omega
theorem mem_slot (p : Dev nD) (h : Fin 2) (i : S16x1x2048.Idx) :
    i ∈ (slotR p h).set ↔ (i 0).val = p.val ∧ 1024 * h.val ≤ (i 2).val ∧ (i 2).val < 1024 * h.val + 1024 := by
  have h1 : (i 1).val < 1 := (i 1).isLt
  rw [Rect.mem_set_unit, Fin.forall_fin_succ, Fin.forall_fin_two]
  show (p.val ≤ (i 0).val ∧ (i 0).val < p.val + 1) ∧ (0 ≤ (i 1).val ∧ (i 1).val < 0 + 1) ∧ (1024 * h.val ≤ (i 2).val ∧ (i 2).val < 1024 * h.val + 1024) ↔ _
  omega
theorem mem_tab (h : Fin 2) (i : S16x1x2048.Idx) : i ∈ (tabR h).set ↔ 1024 * h.val ≤ (i 2).val ∧ (i 2).val < 1024 * h.val + 1024 := by
  have h1 : (i 1).val < 1 := (i 1).isLt
  have h0 : (i 0).val < 16 := (i 0).isLt
  rw [Rect.mem_set_unit, Fin.forall_fin_succ, Fin.forall_fin_two]
  show (0 ≤ (i 0).val ∧ (i 0).val < 0 + 16) ∧ (0 ≤ (i 1).val ∧ (i 1).val < 0 + 1) ∧ (1024 * h.val ≤ (i 2).val ∧ (i 2).val < 1024 * h.val + 1024) ↔ _
  omega

/-- The `b`-th block of four in half `h`. -/
abbrev cb (h : Fin 2) (b : Fin 4) : Fin 8 := ⟨4 * h.val + b.val, by omega⟩

theorem row_disj : ∀ b ∈ (Finset.univ : Finset (Fin 8)), ∀ b' ∈ (Finset.univ : Finset (Fin 8)), b ≠ b' → Disjoint (rowR b).set (rowR b').set := by
  intro b _ b' _ hne
  refine Finset.disjoint_left.mpr fun i hi hi' => hne (Fin.ext ?_)
  rw [mem_row] at hi hi'; omega
theorem row_cover : (Finset.univ : Finset (Fin 8)).biUnion (fun b => (rowR b).set) = Finset.univ := by
  refine Finset.eq_univ_iff_forall.mpr fun i => Finset.mem_biUnion.mpr ?_
  have h0 : (i 0).val < 2048 := (i 0).isLt
  refine ⟨⟨(i 0).val / 256, by omega⟩, Finset.mem_univ _, (mem_row _ _).mpr ?_⟩
  show 256 * ((i 0).val / 256) ≤ (i 0).val ∧ (i 0).val < 256 * ((i 0).val / 256) + 256
  omega
theorem col_disj (h : Fin 2) : ∀ b ∈ (Finset.univ : Finset (Fin 4)), ∀ b' ∈ (Finset.univ : Finset (Fin 4)), b ≠ b' → Disjoint (colR (cb h b)).set (colR (cb h b')).set := by
  intro b _ b' _ hne
  refine Finset.disjoint_left.mpr fun i hi hi' => hne (Fin.ext ?_)
  rw [mem_col] at hi hi'; simp only [cb] at hi hi'; omega
theorem col_cover (h : Fin 2) : (Finset.univ : Finset (Fin 4)).biUnion (fun b => (colR (cb h b)).set) = (halfR h).set := by
  ext i
  rw [Finset.mem_biUnion, mem_half]
  constructor
  · rintro ⟨b, -, hb⟩; rw [mem_col] at hb; simp only [cb] at hb; omega
  · intro hi
    refine ⟨⟨(i 1).val / 256 - 4 * h.val, by omega⟩, Finset.mem_univ _, (mem_col _ _).mpr ?_⟩
    simp only [cb]; omega
theorem half_disj : ∀ b ∈ (Finset.univ : Finset (Fin 2)), ∀ b' ∈ (Finset.univ : Finset (Fin 2)), b ≠ b' → Disjoint (halfR b).set (halfR b').set := by
  intro b _ b' _ hne
  refine Finset.disjoint_left.mpr fun i hi hi' => hne (Fin.ext ?_)
  rw [mem_half] at hi hi'; omega
theorem half_cover : (Finset.univ : Finset (Fin 2)).biUnion (fun b => (halfR b).set) = Finset.univ := by
  refine Finset.eq_univ_iff_forall.mpr fun i => Finset.mem_biUnion.mpr ?_
  have h0 : (i 1).val < 2048 := (i 1).isLt
  refine ⟨⟨(i 1).val / 1024, by omega⟩, Finset.mem_univ _, (mem_half _ _).mpr ?_⟩
  show 1024 * ((i 1).val / 1024) ≤ (i 1).val ∧ (i 1).val < 1024 * ((i 1).val / 1024) + 1024
  omega
theorem slot_disj (h : Fin 2) : ∀ b ∈ (Finset.univ : Finset (Dev nD)), ∀ b' ∈ (Finset.univ : Finset (Dev nD)), b ≠ b' → Disjoint (slotR b h).set (slotR b' h).set := by
  intro b _ b' _ hne
  refine Finset.disjoint_left.mpr fun i hi hi' => hne (Fin.ext ?_)
  rw [mem_slot] at hi hi'; omega
theorem slot_cover (h : Fin 2) : (Finset.univ : Finset (Dev nD)).biUnion (fun p => (slotR p h).set) = (tabR h).set := by
  ext i
  rw [Finset.mem_biUnion, mem_tab]
  constructor
  · rintro ⟨b, -, hb⟩; rw [mem_slot] at hb; omega
  · intro hi
    exact ⟨i 0, Finset.mem_univ _, (mem_slot _ _ _).mpr ⟨rfl, hi⟩⟩
theorem tab_disj : ∀ b ∈ (Finset.univ : Finset (Fin 2)), ∀ b' ∈ (Finset.univ : Finset (Fin 2)), b ≠ b' → Disjoint (tabR b).set (tabR b').set := by
  intro b _ b' _ hne
  refine Finset.disjoint_left.mpr fun i hi hi' => hne (Fin.ext ?_)
  rw [mem_tab] at hi hi'; omega
theorem tab_cover : (Finset.univ : Finset (Fin 2)).biUnion (fun b => (tabR b).set) = Finset.univ := by
  refine Finset.eq_univ_iff_forall.mpr fun i => Finset.mem_biUnion.mpr ?_
  have h0 : (i 2).val < 2048 := (i 2).isLt
  refine ⟨⟨(i 2).val / 1024, by omega⟩, Finset.mem_univ _, (mem_tab _ _).mpr ?_⟩
  show 1024 * ((i 2).val / 1024) ≤ (i 2).val ∧ (i 2).val < 1024 * ((i 2).val / 1024) + 1024
  omega

end Cert.Softmax

end
-- ==== Proof.Protocol.lean ====
/-
# The protocol of the semaphores

Every device `c` has eighty-one semaphores, each used in one round.

* The barrier semaphore: each other device signals it once; `c` waits for fifteen units before its first transfer to
  another device. The signal of device `p` hands `c` line `c` of `p`'s table (both halves), at any contents.
* `in b`: the copy of row block `b` of the argument into fast memory; it hands back both copies of the block.
* `out b`: the copy of row block `b` of the result out of fast memory; it hands back both copies of the block.
* `send h p`: half `h` of `c`'s row of sums has left for device `p`; it hands back the share of the row the transfer held.
* `recv h p`: half `h` of device `p`'s row of sums has landed; it hands `c` line `p` of its own table, HOLDING that row.

What a device owes other devices is the barrier units (level 1) and the landings (level 2); it waits on its barrier
when it owes landings only, and on landings when it owes nothing.
-/
module

public import proofs.«01_k».proof.Proof.Layout

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resources: the pipeline's rounds and this protocol's, whose duties are named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

abbrev barS : Sem sig := (SemArray.scalar (sig.barrier 0 rfl) : Sems sig S_).sem
abbrev inS (b : Fin 8) : DmaSem sig := ⟨b.val, Nat.lt_of_lt_of_le b.isLt (by decide)⟩
abbrev outS (b : Fin 8) : DmaSem sig := ⟨8 + b.val, Nat.lt_of_lt_of_le (Nat.add_lt_add_left b.isLt 8) (by decide)⟩
abbrev sndS (h : Fin 2) (p : Dev nD) : DmaSem sig :=
  ⟨16 + 16 * h.val + p.val, Nat.lt_of_lt_of_le (show 16 + 16 * h.val + p.val < 80 by have : p.val < 16 := p.isLt; omega) (by decide)⟩
abbrev rcvS (h : Fin 2) (p : Dev nD) : DmaSem sig :=
  ⟨48 + 16 * h.val + p.val, Nat.lt_of_lt_of_le (show 48 + 16 * h.val + p.val < 80 by have : p.val < 16 := p.isLt; omega) (by decide)⟩

abbrev barC (c : Dev nD) : GSem nD τ sig := ((c : Thread nD τ), .reg barS)
abbrev inC (c : Dev nD) (b : Fin 8) : GSem nD τ sig := ((c : Thread nD τ), .dma (inS b))
abbrev outC (c : Dev nD) (b : Fin 8) : GSem nD τ sig := ((c : Thread nD τ), .dma (outS b))
abbrev sndC (c : Dev nD) (h : Fin 2) (p : Dev nD) : GSem nD τ sig := ((c : Thread nD τ), .dma (sndS h p))
abbrev rcvC (c : Dev nD) (h : Fin 2) (p : Dev nD) : GSem nD τ sig := ((c : Thread nD τ), .dma (rcvS h p))

/-! ## The amounts -/

abbrev Nin : ℕ := (XF.view.slice (rowR 0)).dmaCredit
abbrev Nout : ℕ := (V1.view.slice (rowR 0)).dmaCredit
abbrev Nst : ℕ := (SP.view.slice (halfR 0)).dmaCredit
theorem Nin_pos : 0 < Nin := View.dmaCredit_pos _ (by decide)
theorem Nout_pos : 0 < Nout := View.dmaCredit_pos _ (by decide)
theorem Nst_pos : 0 < Nst := View.dmaCredit_pos _ (by decide)

/-! ## Shares of a row of sums: one for each device it is sent to, and a rest -/

/-- What is left of a full share after `k` devices' shares. -/
def restSh : ℕ → PosShare TreeShare
  | 0 => fullShare
  | k + 1 => (restSh k).right
/-- Device `k`'s share. -/
def partSh (k : ℕ) : PosShare TreeShare := (restSh k).left

theorem restSh_split (k : ℕ) : restSh k ∈ PCS.op (partSh k) (restSh (k + 1)) := PosShare.mem_left_op_right _

/-! ## The pieces held -/

def argP (c : Dev nD) (b : Fin 8) : sProp 𝕄 := ((c : Thread nD τ).loc main_arg0) ↦[(rowR b).set]{fullShare} xa m c
def xfP (c : Dev nD) (b : Fin 8) (f : Buf (Elt F) ((c : Thread nD τ).loc cc0_scratch0)) : sProp 𝕄 :=
  ((c : Thread nD τ).loc cc0_scratch0) ↦[(rowR b).set]{fullShare} f
def obP (c : Dev nD) (b : Fin 8) (f : Buf (Elt F) ((c : Thread nD τ).loc cc0_scratch1)) : sProp 𝕄 :=
  ((c : Thread nD τ).loc cc0_scratch1) ↦[(rowR b).set]{fullShare} f
def resP (c : Dev nD) (b : Fin 8) (f : Buf (Elt F) ((c : Thread nD τ).loc main_v1)) : sProp 𝕄 :=
  ((c : Thread nD τ).loc main_v1) ↦[(rowR b).set]{fullShare} f
def colP (c : Dev nD) (b : Fin 8) (f : Buf (Elt F) ((c : Thread nD τ).loc cc0_scratch2)) : sProp 𝕄 :=
  ((c : Thread nD τ).loc cc0_scratch2) ↦[(colR b).set]{fullShare} f
def halfP (c : Dev nD) (h : Fin 2) (q : PosShare TreeShare) : sProp 𝕄 := ((c : Thread nD τ).loc cc0_scratch2) ↦[(halfR h).set]{q} st m c
/-- Half `h` of line `p` of device `c`'s table. -/
def slotP (c p : Dev nD) (h : Fin 2) (f : Buf (Elt F) ((c : Thread nD τ).loc cc0_scratch3)) : sProp 𝕄 :=
  ((c : Thread nD τ).loc cc0_scratch3) ↦[(slotR p h).set]{fullShare} f
def anySlot (c p : Dev nD) (h : Fin 2) : sProp 𝕄 := iprop(∃ f, slotP (F := F) c p h f)

omit [FloatOps F] in
instance (c : Dev nD) (b : Fin 8) (f) : BI.Storable (upEmb : UEmb _ 𝕄) (xfP (F := F) c b f) := by unfold xfP; infer_instance
omit [FloatOps F] in
instance (c : Dev nD) (b : Fin 8) (f) : BI.Storable (upEmb : UEmb _ 𝕄) (obP (F := F) c b f) := by unfold obP; infer_instance
omit [FloatOps F] in
instance (c : Dev nD) (b : Fin 8) (f) : BI.Storable (upEmb : UEmb _ 𝕄) (resP (F := F) c b f) := by unfold resP; infer_instance
omit [FloatOps F] in
instance (c p : Dev nD) (h : Fin 2) (f) : BI.Storable (upEmb : UEmb _ 𝕄) (slotP (F := F) c p h f) := by unfold slotP; infer_instance
omit [FloatOps F] in
instance (c p : Dev nD) (h : Fin 2) : BI.Storable (upEmb : UEmb _ 𝕄) (anySlot (F := F) c p h) := by unfold anySlot; infer_instance
instance (c : Dev nD) (h : Fin 2) (q) : BI.Storable (upEmb : UEmb _ 𝕄) (halfP m c h q) := by unfold halfP; infer_instance
omit [FloatOps F] in
instance (c : Dev nD) (b : Fin 8) : BI.Storable (upEmb : UEmb _ 𝕄) (argP m c b) := by unfold argP; infer_instance

/-! ## The payloads -/

/-- What device `p`'s signal hands `c`: line `c` of `p`'s table. -/
def barPay (c p : Dev nD) : sProp 𝕄 := iprop(anySlot (F := F) p c 0 ∗ anySlot (F := F) p c 1)
def inPay (c : Dev nD) (b : Fin 8) : sProp 𝕄 := iprop(xfP c b (xa m c) ∗ argP m c b)
def outPay (c : Dev nD) (b : Fin 8) : sProp 𝕄 := iprop(resP c b (out m c) ∗ obP c b (out m c))
def sndPay (c : Dev nD) (h : Fin 2) (p : Dev nD) : sProp 𝕄 := halfP m c h (partSh p.val)
def rcvPay (c : Dev nD) (h : Fin 2) (p : Dev nD) : sProp 𝕄 := slotP c p h (ga m)

abbrev b8 (n : ℕ) : Fin 8 := ⟨n % 8, Nat.mod_lt _ (by decide)⟩
abbrev h2 (n : ℕ) : Fin 2 := ⟨n / 16 % 2, Nat.mod_lt _ (by decide)⟩
abbrev d16 (n : ℕ) : Dev nD := ⟨n % 16, Nat.mod_lt _ (by decide)⟩

/-- Who pays into a semaphore of device `c`. -/
def duty (c : Dev nD) : SemLoc sig → Finset (Dev nD)
  | .reg _ => Finset.univ.erase c
  | .dma s => if s.val < 16 then {c} else if d16 s.val = c then ∅ else if s.val < 48 then {c} else {d16 s.val}
/-- How much each payer pays. -/
def amnt : SemLoc sig → ℕ
  | .reg _ => 1
  | .dma s => if s.val < 8 then Nin else if s.val < 16 then Nout else Nst
/-- What each payer hands over. -/
def paid (c : Dev nD) : SemLoc sig → Dev nD → sProp 𝕄
  | .reg _, p => barPay (F := F) c p
  | .dma s, _ => if s.val < 8 then inPay m c (b8 s.val) else if s.val < 16 then outPay m c (b8 s.val)
      else if s.val < 48 then sndPay m c (h2 (s.val - 16)) (d16 s.val) else rcvPay m c (h2 (s.val - 48)) (d16 s.val)

/-- The schedule: one round, round 0, on every semaphore of every device. -/
def Rd : Rounds.Schedule (GSem nD τ sig) (Dev nD) 𝕄 where
  duties g r := if r = 0 ∧ g.1.2 = .tc then duty g.1.1 g.2 else ∅
  unitless _ := False
  amount g _ _ := amnt g.2
  payload g _ d := paid m g.1.1 g.2 d
  amount_pos g r d _ := by
    show 0 < amnt g.2
    unfold amnt
    have := Nin_pos; have := Nout_pos; have := Nst_pos
    split
    · exact Nat.one_pos
    · (repeat' split) <;> assumption

instance Rd_storable (g : GSem nD τ sig) (r : ℕ) (d : Dev nD) : BI.Storable (upEmb : UEmb _ 𝕄) ((Rd (F := F) m).payload g r d) := by
  show BI.Storable upEmb (paid m g.1.1 g.2 d)
  unfold paid barPay inPay outPay sndPay rcvPay
  (repeat' split) <;> infer_instance

section Sched
variable (c : Dev nD)

theorem duties_tc (s : SemLoc sig) : (Rd (F := F) m).duties ((c : Thread nD τ), s) 0 = duty c s := by unfold Rd; dsimp only; exact if_pos ⟨rfl, rfl⟩
theorem duties_later (g : GSem nD τ sig) : ∀ r, 1 ≤ r → (Rd (F := F) m).duties g r = ∅ := fun r hr => if_neg fun h => by omega
theorem duties_none (s : SemLoc sig) (h : duty c s = ∅) : ∀ r, 0 ≤ r → (Rd (F := F) m).duties ((c : Thread nD τ), s) r = ∅ := by
  intro r _
  rcases Nat.eq_zero_or_pos r with rfl | hr
  · rw [duties_tc, h]
  · exact duties_later m _ r hr

theorem duty_bar : duty c (.reg barS) = Finset.univ.erase c := rfl
theorem duty_in (b : Fin 8) : duty c (.dma (inS b)) = {c} := if_pos (by show b.val < 16; omega)
theorem duty_out (b : Fin 8) : duty c (.dma (outS b)) = {c} := if_pos (by show 8 + b.val < 16; omega)
theorem d16_snd (h : Fin 2) (p : Dev nD) : d16 (sndS h p).val = p := by
  have hp : p.val < 16 := p.isLt
  exact Fin.ext (show (16 + 16 * h.val + p.val) % 16 = p.val by omega)
theorem d16_rcv (h : Fin 2) (p : Dev nD) : d16 (rcvS h p).val = p := by
  have hp : p.val < 16 := p.isLt
  exact Fin.ext (show (48 + 16 * h.val + p.val) % 16 = p.val by omega)
theorem duty_snd (h : Fin 2) (p : Dev nD) (hp : c ≠ p) : duty c (.dma (sndS h p)) = {c} := by
  have hl : p.val < 16 := p.isLt
  unfold duty; dsimp only
  rw [if_neg (by show ¬ (16 + 16 * h.val + p.val < 16); omega), d16_snd, if_neg (Ne.symm hp), if_pos (by show 16 + 16 * h.val + p.val < 48; omega)]
theorem duty_rcv (h : Fin 2) (p : Dev nD) (hp : c ≠ p) : duty c (.dma (rcvS h p)) = {p} := by
  have hl : p.val < 16 := p.isLt
  unfold duty; dsimp only
  rw [if_neg (by show ¬ (48 + 16 * h.val + p.val < 16); omega), d16_rcv, if_neg (Ne.symm hp), if_neg (by show ¬ (48 + 16 * h.val + p.val < 48); omega)]
theorem duty_snd_self (h : Fin 2) : duty c (.dma (sndS h c)) = ∅ := by
  unfold duty; dsimp only
  rw [if_neg (by show ¬ (16 + 16 * h.val + c.val < 16); omega), d16_snd, if_pos rfl]
theorem duty_rcv_self (h : Fin 2) : duty c (.dma (rcvS h c)) = ∅ := by
  unfold duty; dsimp only
  rw [if_neg (by show ¬ (48 + 16 * h.val + c.val < 16); omega), d16_rcv, if_pos rfl]

theorem amnt_in (b : Fin 8) : amnt (.dma (inS b)) = Nin := if_pos (by show b.val < 8; omega)
theorem amnt_out (b : Fin 8) : amnt (.dma (outS b)) = Nout := by
  unfold amnt; dsimp only; rw [if_neg (by show ¬ (8 + b.val < 8); omega), if_pos (by show 8 + b.val < 16; omega)]
theorem amnt_snd (h : Fin 2) (p : Dev nD) : amnt (.dma (sndS h p)) = Nst := by
  unfold amnt; dsimp only; rw [if_neg (by show ¬ (16 + 16 * h.val + p.val < 8); omega), if_neg (by show ¬ (16 + 16 * h.val + p.val < 16); omega)]
theorem amnt_rcv (h : Fin 2) (p : Dev nD) : amnt (.dma (rcvS h p)) = Nst := by
  unfold amnt; dsimp only; rw [if_neg (by show ¬ (48 + 16 * h.val + p.val < 8); omega), if_neg (by show ¬ (48 + 16 * h.val + p.val < 16); omega)]

theorem paid_bar (d : Dev nD) : paid m c (.reg barS) d = barPay c d := rfl
theorem paid_in (b : Fin 8) (d : Dev nD) : paid m c (.dma (inS b)) d = inPay m c b := by
  unfold paid; dsimp only; rw [if_pos (by show b.val < 8; omega)]
  congr 1; exact Fin.ext (show b.val % 8 = b.val by omega)
theorem paid_out (b : Fin 8) (d : Dev nD) : paid m c (.dma (outS b)) d = outPay m c b := by
  unfold paid; dsimp only; rw [if_neg (by show ¬ (8 + b.val < 8); omega), if_pos (by show 8 + b.val < 16; omega)]
  congr 1; exact Fin.ext (show (8 + b.val) % 8 = b.val by omega)
theorem paid_snd (h : Fin 2) (p d : Dev nD) : paid m c (.dma (sndS h p)) d = sndPay m c h p := by
  have hl : p.val < 16 := p.isLt
  unfold paid; dsimp only
  rw [if_neg (by show ¬ (16 + 16 * h.val + p.val < 8); omega), if_neg (by show ¬ (16 + 16 * h.val + p.val < 16); omega), if_pos (by show 16 + 16 * h.val + p.val < 48; omega), d16_snd]
  congr 1; exact Fin.ext (show (16 + 16 * h.val + p.val - 16) / 16 % 2 = h.val by omega)
theorem paid_rcv (h : Fin 2) (p d : Dev nD) : paid m c (.dma (rcvS h p)) d = rcvPay m c h p := by
  have hl : p.val < 16 := p.isLt
  unfold paid; dsimp only
  rw [if_neg (by show ¬ (48 + 16 * h.val + p.val < 8); omega), if_neg (by show ¬ (48 + 16 * h.val + p.val < 16); omega), if_neg (by show ¬ (48 + 16 * h.val + p.val < 48); omega), d16_rcv]
  congr 1; exact Fin.ext (show (48 + 16 * h.val + p.val - 48) / 16 % 2 = h.val by omega)

theorem amount_eq (g : GSem nD τ sig) (d : Dev nD) : (Rd (F := F) m).amount g 0 d = amnt g.2 := rfl
theorem payload_eq (s : SemLoc sig) (d : Dev nD) : (Rd (F := F) m).payload ((c : Thread nD τ), s) 0 d = paid m c s d := rfl

theorem expect_one (s : SemLoc sig) (d : Dev nD) (h : duty c s = {d}) : (Rd (F := F) m).expect ((c : Thread nD τ), s) 0 = amnt s := by
  unfold Schedule.expect Schedule.amountOf; rw [duties_tc, h, Finset.sum_singleton]; rfl
theorem expect_bar : (Rd (F := F) m).expect (barC c) 0 = 15 := by
  unfold Schedule.expect Schedule.amountOf; rw [duties_tc, duty_bar]
  show ∑ _d ∈ Finset.univ.erase c, 1 = 15
  rw [Finset.sum_const, Finset.card_erase_of_mem (Finset.mem_univ _), Finset.card_univ, Fintype.card_fin]; rfl

theorem rest_one (s : SemLoc sig) (d : Dev nD) (h : duty c s = {d}) :
    bigSep ((Rd (F := F) m).duties ((c : Thread nD τ), s) 0 \ ∅) (fun d => (Rd (F := F) m).payload ((c : Thread nD τ), s) 0 d) = paid m c s d := by
  rw [Finset.sdiff_empty, duties_tc, h, bigSep_singleton]; rfl
theorem rest_bar : bigSep ((Rd (F := F) m).duties (barC c) 0 \ ∅) (fun d => (Rd (F := F) m).payload (barC c) 0 d)
    = bigSep (Finset.univ.erase c) (fun p => barPay (F := F) c p) := by
  rw [Finset.sdiff_empty, duties_tc, duty_bar]; rfl

end Sched

/-! ## What a device owes; the levels -/

/-- The barrier units still owed once the devices below `k` are signalled. -/
def oBar (c : Dev nD) (k : ℕ) : CellTallies nD τ sig Unit := ∑ p ∈ Finset.univ.filter (fun p : Dev nD => k ≤ p.val ∧ p ≠ c), tallyAt (barC p) () 1
/-- The landings of half `h` still owed once the devices below `k` are served. -/
def oRcv (c : Dev nD) (h : Fin 2) (k : ℕ) : CellTallies nD τ sig Unit :=
  ∑ p ∈ Finset.univ.filter (fun p : Dev nD => k ≤ p.val ∧ p ≠ c), tallyAt (rcvC p h c) () Nst
def oAll (c : Dev nD) (k a b : ℕ) : CellTallies nD τ sig Unit := oRcv c 0 a + oRcv c 1 b + oBar c k

theorem filt_skip (c : Dev nD) (k : ℕ) (h : k = c.val) :
    (Finset.univ.filter fun p : Dev nD => k ≤ p.val ∧ p ≠ c) = Finset.univ.filter fun p : Dev nD => k + 1 ≤ p.val ∧ p ≠ c := by
  ext p; simp only [Finset.mem_filter, Finset.mem_univ, true_and]
  constructor
  · rintro ⟨h1, h2⟩; exact ⟨by have := Fin.val_ne_of_ne h2; omega, h2⟩
  · rintro ⟨h1, h2⟩; exact ⟨by omega, h2⟩
theorem filt_take (c p : Dev nD) (h : c ≠ p) :
    (Finset.univ.filter fun q : Dev nD => p.val ≤ q.val ∧ q ≠ c) = insert p (Finset.univ.filter fun q : Dev nD => p.val + 1 ≤ q.val ∧ q ≠ c) := by
  ext q; simp only [Finset.mem_filter, Finset.mem_univ, true_and, Finset.mem_insert]
  constructor
  · rintro ⟨h1, h2⟩
    rcases Nat.eq_or_lt_of_le h1 with e | l
    · exact .inl (Fin.ext e.symm)
    · exact .inr ⟨l, h2⟩
  · rintro (rfl | ⟨h1, h2⟩)
    · exact ⟨Nat.le_refl _, Ne.symm h⟩
    · exact ⟨by omega, h2⟩
theorem filt_not (c p : Dev nD) : p ∉ (Finset.univ.filter fun q : Dev nD => p.val + 1 ≤ q.val ∧ q ≠ c) := by
  simp only [Finset.mem_filter, Finset.mem_univ, true_and]; omega
theorem filt_end (c : Dev nD) : (Finset.univ.filter fun q : Dev nD => 16 ≤ q.val ∧ q ≠ c) = ∅ := by
  refine Finset.filter_eq_empty_iff.mpr fun q _ h => ?_
  have : q.val < 16 := q.isLt
  omega

theorem oBar_skip (c : Dev nD) : oBar c c.val = oBar c (c.val + 1) := by unfold oBar; rw [filt_skip c _ rfl]
theorem oRcv_skip (c : Dev nD) (h : Fin 2) : oRcv c h c.val = oRcv c h (c.val + 1) := by unfold oRcv; rw [filt_skip c _ rfl]
theorem oBar_take (c p : Dev nD) (h : c ≠ p) : oBar c p.val = oBar c (p.val + 1) + tallyAt (barC p) () 1 := by
  unfold oBar; rw [filt_take c p h, Finset.sum_insert (filt_not c p), add_comm]
theorem oRcv_take (c p : Dev nD) (h : Fin 2) (hp : c ≠ p) : oRcv c h p.val = oRcv c h (p.val + 1) + tallyAt (rcvC p h c) () Nst := by
  unfold oRcv; rw [filt_take c p hp, Finset.sum_insert (filt_not c p), add_comm]
theorem oBar_end (c : Dev nD) : oBar c 16 = 0 := by unfold oBar; rw [filt_end]; rfl
theorem oRcv_end (c : Dev nD) (h : Fin 2) : oRcv c h 16 = 0 := by unfold oRcv; rw [filt_end]; rfl

def L (g : GSem nD τ sig) : Finset Unit := if g.1.2 = .tc then {()} else ∅
/-- Barrier semaphores at level 1, landings at level 2, a device's own copies and sends at level 0. -/
def lv (g : GSem nD τ sig) (_ : Unit) : ℕ := match g.2 with
  | .reg _ => 1
  | .dma s => if s.val < 48 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (h : Fin 2) (p : Dev nD) : lv (rcvC c h p) () = 2 := if_neg (by show ¬ (48 + 16 * h.val + p.val < 48); omega)
theorem lv_low (c : Dev nD) (s : DmaSem sig) (hs : s.val < 48) : lv ((c : Thread nD τ), .dma s) () = 0 := if_pos hs

theorem sum_pos {c : Dev nD} {k n : ℕ} {f : Dev nD → GSem nD τ sig} {g : GSem nD τ sig} {u : Unit}
    (h : 0 < (∑ p ∈ Finset.univ.filter (fun p : Dev nD => k ≤ p.val ∧ p ≠ c), tallyAt (f p) () n : CellTallies nD τ sig Unit) g u) : ∃ p, g = f p := by
  rw [Finset.sum_apply, Finsupp.finset_sum_apply] at h
  obtain ⟨p, -, hp⟩ := Finset.exists_ne_zero_of_sum_ne_zero (Nat.pos_iff_ne_zero.mp h)
  rw [tallyAt_apply] at hp
  by_cases hg : g = f p
  · exact ⟨p, hg⟩
  · exact absurd (if_neg fun h' => hg h'.1) hp

theorem oAll_pos {c : Dev nD} {k a b : ℕ} {g : GSem nD τ sig} {u : Unit} (h : 0 < oAll c k a b g u) :
    (∃ p h, g = rcvC p h c) ∨ (∃ p, g = barC p ∧ k < 16) := by
  unfold oAll at h
  rw [Pi.add_apply, Finsupp.add_apply, Pi.add_apply, Finsupp.add_apply] at h
  by_cases h0 : 0 < oRcv c 0 a g u
  · obtain ⟨p, hp⟩ := sum_pos h0; exact .inl ⟨p, 0, hp⟩
  by_cases h1 : 0 < oRcv c 1 b g u
  · obtain ⟨p, hp⟩ := sum_pos h1; exact .inl ⟨p, 1, hp⟩
  have h2 : 0 < oBar c k g u := by omega
  obtain ⟨p, hp⟩ := sum_pos h2
  refine .inr ⟨p, hp, ?_⟩
  by_contra hk
  have he : oBar c k = 0 := by
    unfold oBar
    rw [Finset.filter_eq_empty_iff.mpr fun q _ h => by have : q.val < 16 := q.isLt; omega]; rfl
  rw [he] at h2
  exact Nat.lt_irrefl 0 h2

/-- A device may wait on its own copies and sends whatever it owes. -/
theorem mayWait_low (c : Dev nD) (s : DmaSem sig) (hs : s.val < 48) (k a b : ℕ) :
    (levAts L lv : sProp 𝕄) ⊢ MayWait (c : Thread nD τ) (.dma s) () (oAll c k a b) :=
  MayOwe.of_cut (L := L) (lev := lv) 0 (fun p hp => by rw [Finset.mem_singleton.mp hp, L_tc]; exact Finset.mem_singleton_self _)
    (fun g u hg => by rcases oAll_pos hg with ⟨p, h, rfl⟩ | ⟨p, rfl, -⟩ <;> exact Finset.mem_singleton_self _)
    (fun p hp => by rw [Finset.mem_singleton.mp hp, lv_low c s hs])
    (fun g u hg => by
      rcases oAll_pos hg with ⟨p, h, rfl⟩ | ⟨p, rfl, -⟩
      · rw [show u = () from rfl, lv_rcv]; decide
      · exact Nat.one_pos)

/-- A device that has signalled every other one may wait on its barrier. -/
theorem mayWait_bar (c : Dev nD) (a b : ℕ) :
    (levAts L lv : sProp 𝕄) ⊢ MayWait (c : Thread nD τ) (.reg barS) () (oAll c 16 a b) :=
  MayOwe.of_cut (L := L) (lev := lv) 1 (fun p hp => by rw [Finset.mem_singleton.mp hp, L_tc]; exact Finset.mem_singleton_self _)
    (fun g u hg => by rcases oAll_pos hg with ⟨p, h, rfl⟩ | ⟨p, rfl, -⟩ <;> exact Finset.mem_singleton_self _)
    (fun p hp => by rw [Finset.mem_singleton.mp hp]; exact Nat.le_refl 1)
    (fun g u hg => by
      rcases oAll_pos hg with ⟨p, h, rfl⟩ | ⟨p, rfl, hk⟩
      · rw [show u = () from rfl, lv_rcv]; decide
      · exact absurd hk (Nat.lt_irrefl 16))

theorem oAll_end (c : Dev nD) : oAll c 16 16 16 = 0 := by unfold oAll; rw [oRcv_end, oRcv_end, oBar_end]; simp

/-- A device that owes nothing may wait on anything. -/
theorem mayWait_end (c : Dev nD) (s : SemLoc sig) : (levAts L lv : sProp 𝕄) ⊢ MayWait (c : Thread nD τ) s () (oAll c 16 16 16) := by
  rw [oAll_end, MayWait_zero]; iintro -; iempintro

end Cert.Softmax

end
-- ==== Proof.State.lean ====
/-
# Where a device stands

Every phase of a device's program goes over blocks or devices in the order of their numbers, so where it stands is told
by counters: how many devices are signalled, how many blocks are copied in, and so on. `St` says what the device holds
at such a point.
-/
module

public import proofs.«01_k».proof.Proof.Protocol

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Segments -/

section Seg
/-- `f` at every place from `a` up to below `b`. -/
def seg {n : ℕ} (f : Fin n → sProp 𝕄) (a b : ℕ) : sProp 𝕄 := bigSep (Finset.univ.filter fun i : Fin n => a ≤ i.val ∧ i.val < b) f

omit [FloatOps F] in
theorem seg_nil {n : ℕ} (f : Fin n → sProp 𝕄) (a b : ℕ) (h : b ≤ a) : seg f a b = iprop(emp) := by
  unfold seg
  rw [Finset.filter_eq_empty_iff.mpr fun i _ h' => by omega]; rfl
omit [FloatOps F] in
theorem seg_full {n : ℕ} (f : Fin n → sProp 𝕄) (b : ℕ) (h : n ≤ b) : seg f 0 b = bigSep Finset.univ f := by
  unfold seg
  rw [Finset.filter_true_of_mem fun i _ => ⟨Nat.zero_le _, Nat.lt_of_lt_of_le i.isLt h⟩]
omit [FloatOps F] in
theorem seg_take {n : ℕ} (f : Fin n → sProp 𝕄) (a k b : ℕ) (hk : k < n) (ha : a ≤ k) (hb : k < b) :
    seg f a b = iprop(f ⟨k, hk⟩ ∗ bigSep ((Finset.univ.filter fun i : Fin n => a ≤ i.val ∧ i.val < b).erase ⟨k, hk⟩) f) :=
  bigSep_erase (by simp only [Finset.mem_filter, Finset.mem_univ, true_and]; exact ⟨ha, hb⟩)
omit [FloatOps F] in
theorem seg_pop {n : ℕ} (f : Fin n → sProp 𝕄) (k b : ℕ) (hk : k < n) (hb : k < b) : seg f k b = iprop(f ⟨k, hk⟩ ∗ seg f (k + 1) b) := by
  rw [seg_take f k k b hk (Nat.le_refl _) hb]
  unfold seg
  congr 2
  ext i; simp only [Finset.mem_erase, Finset.mem_filter, Finset.mem_univ, true_and, ne_eq, Fin.ext_iff]; omega
omit [FloatOps F] in
theorem seg_push {n : ℕ} (f : Fin n → sProp 𝕄) (a k : ℕ) (hk : k < n) (ha : a ≤ k) : seg f a (k + 1) = iprop(f ⟨k, hk⟩ ∗ seg f a k) := by
  rw [seg_take f a k (k + 1) hk ha (Nat.lt_succ_self _)]
  unfold seg
  congr 2
  ext i; simp only [Finset.mem_erase, Finset.mem_filter, Finset.mem_univ, true_and, ne_eq, Fin.ext_iff]; omega
omit [FloatOps F] in
/-- One place lent out and given back. -/
theorem seg_lend {n : ℕ} (f : Fin n → sProp 𝕄) (a k b : ℕ) (hk : k < n) (ha : a ≤ k) (hb : k < b) : seg f a b ⊢ iprop(f ⟨k, hk⟩ ∗ (f ⟨k, hk⟩ -∗ seg f a b)) := by
  rw [seg_take f a k b hk ha hb]
  iintro ⟨H, Hr⟩
  isplitl [H]; · iexact H
  iintro H
  isplitl [H] <;> iassumption

end Seg

variable (m : (ℓ : Loc nD τ sig) → Buf (Elt F) ℓ) (K : Dev nD × SemLoc sig → ℕ)

/-! ## What every device knows, and what it owes -/

/-- A semaphore's invariant, and that round 0 of it is open. -/
def cellEnv (p : Dev nD × SemLoc sig) : sProp 𝕄 :=
  iprop(cellInv ER (Rd m) (K p) ((p.1 : Thread nD τ), p.2) ∗ reached ER ((p.1 : Thread nD τ), p.2) 0)

instance (p : Dev nD × SemLoc sig) : BI.Persistent (cellEnv (F := F) m K p) := by unfold cellEnv; infer_instance

/-- Every semaphore's invariant, that round 0 of it is open, and the levels. -/
def Env : sProp 𝕄 :=
  iprop(bigSep Finset.univ (cellEnv m K) ∗ levAts L lv)

instance : BI.Persistent (Env (F := F) m K) := by unfold Env; infer_instance

theorem env_one (c : Dev nD) (s : SemLoc sig) : (bigSep Finset.univ (cellEnv m K) : sProp 𝕄) ⊢ cellEnv m K (c, s) :=
  bigSep_elim (Finset.mem_univ (c, s))

theorem env_cell (c : Dev nD) (s : SemLoc sig) : Env m K ⊢ cellInv ER (Rd m) (K (c, s)) ((c : Thread nD τ), s) := by
  unfold Env
  iintro ⟨H, -⟩
  ihave H := (env_one m K c s) $$ H
  unfold cellEnv
  icases H with ⟨H, -⟩
  iexact H
theorem env_reached (c : Dev nD) (s : SemLoc sig) : Env m K ⊢ (reached ER ((c : Thread nD τ), s) 0 : sProp 𝕄) := by
  unfold Env
  iintro ⟨H, -⟩
  ihave H := (env_one m K c s) $$ H
  unfold cellEnv
  icases H with ⟨-, H⟩
  iexact H
theorem env_lev : Env m K ⊢ (levAts L lv : sProp 𝕄) := by
  unfold Env
  iintro ⟨-, H⟩
  iexact H

set_option maxRecDepth 8000

/-- What a device may wait on. -/
theorem env_low (c : Dev nD) (s : DmaSem sig) (hs : s.val < 48) (k a b : ℕ) :
    Env m K ⊢ (MayWait (c : Thread nD τ) (.dma s) () (oAll c k a b) : sProp 𝕄) := (env_lev m K).trans (mayWait_low c s hs k a b)
theorem env_bar (c : Dev nD) (a b : ℕ) :
    Env m K ⊢ (MayWait (c : Thread nD τ) (.reg barS) () (oAll c 16 a b) : sProp 𝕄) := (env_lev m K).trans (mayWait_bar c a b)
theorem env_end (c : Dev nD) (s : SemLoc sig) :
    Env m K ⊢ (MayWait (c : Thread nD τ) s () (oAll c 16 16 16) : sProp 𝕄) := (env_lev m K).trans (mayWait_end c s)

def owing (c : Dev nD) (k a b : ℕ) : sProp 𝕄 := iprop(∃ W : Waits sig Unit, owes (c : Thread nD τ) (oAll c k a b) W)

variable (c : Dev nD)

/-! ## The parts of a state -/

/-- `P`, at every device but `c` itself. -/
def others (P : Dev nD → sProp 𝕄) (p : Dev nD) : sProp 𝕄 := if p = c then iprop(emp) else P p

omit [FloatOps F] in
theorem others_self (P : Dev nD → sProp 𝕄) : others c P c = iprop(emp) := if_pos rfl
omit [FloatOps F] in
theorem others_ne (P : Dev nD → sProp 𝕄) (p : Dev nD) (h : c ≠ p) : others c P p = P p := if_neg (Ne.symm h)

/-- Device `c`'s position on semaphore `s`: round `r`. -/
def pos (s : SemLoc sig) (r : ℕ) : sProp 𝕄 := atPos ER ((c : Thread nD τ), s) r ∅ 0

/-- The round a semaphore of device `p`'s ends at: the ones of `c` itself are never used. -/
def fin1 (p : Dev nD) : ℕ := if p = c then 0 else 1

/-- What a signal to `p` takes: the right to signal it, and line `p` of `c`'s own table. -/
def sigTok (p : Dev nD) : sProp 𝕄 := iprop(dutyTok ER (barC p) 0 c ∗ barPay (F := F) p c)

def inTok (b : Fin 8) : sProp 𝕄 := iprop(dutyTok ER (inC c b) 0 c ∗ argP m c b ∗ ∃ f, xfP (F := F) c b f)
/-- The copies in: `ci` are started, `wi` of them awaited. -/
def InP (ci wi : ℕ) : sProp 𝕄 :=
  iprop(seg (inTok m c) ci 8 ∗ seg (fun b : Fin 8 => cred (tallyAt (inC c b) () Nin)) wi ci ∗ seg (inPay m c) 0 wi
    ∗ seg (fun b : Fin 8 => pos (F := F) c (.dma (inS b)) 0) wi 8 ∗ seg (fun b : Fin 8 => pos (F := F) c (.dma (inS b)) 1) 0 wi)

def outTok (b : Fin 8) : sProp 𝕄 := iprop(dutyTok ER (outC c b) 0 c ∗ ∃ f, resP (F := F) c b f)
/-- The copies out: `ob` blocks of the result are computed, `co` copies started, `wo` awaited. -/
def OutP (ob co wo : ℕ) : sProp 𝕄 :=
  iprop(seg (fun b : Fin 8 => iprop(∃ f, obP (F := F) c b f)) ob 8 ∗ seg (fun b : Fin 8 => obP c b (out m c)) co ob
    ∗ seg (outTok (F := F) c) co 8 ∗ seg (fun b : Fin 8 => cred (tallyAt (outC c b) () Nout)) wo co ∗ seg (outPay m c) 0 wo
    ∗ seg (fun b : Fin 8 => pos (F := F) c (.dma (outS b)) 0) wo 8 ∗ seg (fun b : Fin 8 => pos (F := F) c (.dma (outS b)) 1) 0 wo)

/-- The barrier, before (`0`) and after (`1`) the wait on it. -/
def BarP (bw : ℕ) : sProp 𝕄 :=
  if bw = 0 then iprop(cred (tallyAt (barC c) () 15) ∗ pos c (.reg barS) 0) else pos c (.reg barS) 1

/-- Half `h` of the row of sums. While it is computed (`s ≤ 4` blocks of it are done) it is held in blocks; after (`5`) in
shares: the rest, those of the devices not yet served, and those that came back. -/
def RowP (h : Fin 2) (s d w : ℕ) : sProp 𝕄 :=
  if s < 5 then
    iprop(seg (fun b : Fin 4 => iprop(∃ f, colP (F := F) c (cb h b) f)) s 4 ∗ seg (fun b : Fin 4 => colP c (cb h b) (st m c)) 0 s)
  else
    iprop(halfP m c h (restSh 16) ∗ seg (fun p : Dev nD => halfP m c h (partSh p.val)) d 16
      ∗ seg (fun p : Dev nD => if p = c then halfP m c h (partSh p.val) else cred (tallyAt (sndC c h p) () Nst)) w d
      ∗ seg (fun p : Dev nD => halfP m c h (partSh p.val)) 0 w)

/-- Device `c`'s own line of its table, holding its row of sums once the devices up to `c` are gone over. -/
def OwnP (h : Fin 2) (g : ℕ) : sProp 𝕄 := if g ≤ c.val then anySlot c c h else slotP c c h (ga m)

def sndTok (h : Fin 2) (p : Dev nD) : sProp 𝕄 := iprop(dutyTok ER (sndC c h p) 0 c ∗ dutyTok ER (rcvC p h c) 0 c)
/-- The sends of half `h`: `d` devices are served, `w` of the sends are awaited; `bw` tells if the targets are at hand. -/
def SndP (h : Fin 2) (bw d w : ℕ) : sProp 𝕄 :=
  iprop((if bw = 0 then iprop(emp) else seg (others c fun p => anySlot (F := F) p c h) d 16)
    ∗ seg (others c (sndTok (F := F) c h)) d 16 ∗ seg (fun p : Dev nD => pos (F := F) c (.dma (sndS h p)) 0) w 16
    ∗ seg (fun p : Dev nD => pos (F := F) c (.dma (sndS h p)) (fin1 c p)) 0 w)

/-- The landings of half `h`: `r` are awaited. -/
def RcvP (h : Fin 2) (r : ℕ) : sProp 𝕄 :=
  iprop(seg (others c fun p => cred (tallyAt (rcvC c h p) () Nst)) r 16 ∗ seg (others c fun p => slotP c p h (ga m)) 0 r
    ∗ seg (fun p : Dev nD => pos (F := F) c (.dma (rcvS h p)) 0) r 16
    ∗ seg (fun p : Dev nD => pos (F := F) c (.dma (rcvS h p)) (fin1 c p)) 0 r)

/-- All of half `h`. -/
def Half (h : Fin 2) (bw s g d w r : ℕ) : sProp 𝕄 :=
  iprop(RowP m c h s d w ∗ OwnP m c h g ∗ SndP (F := F) c h bw d w ∗ RcvP m c h r)

/-- Where device `c` stands: `sg` signals given, `bw` barrier waits done, `ci`/`wi` copies in started/awaited, `ob`/`co`/`wo`
result blocks computed/copied out/awaited, and each half's own counters. -/
def St (sg bw ci wi ob co wo s0 g0 d0 w0 r0 s1 g1 d1 w1 r1 : ℕ) : sProp 𝕄 :=
  iprop(Env m K ∗ owing (F := F) c sg d0 d1 ∗ seg (others c (sigTok (F := F) c)) sg 16 ∗ BarP (F := F) c bw ∗ InP m c ci wi ∗ OutP m c ob co wo
    ∗ Half m c 0 bw s0 g0 d0 w0 r0 ∗ Half m c 1 bw s1 g1 d1 w1 r1)

end Cert.Softmax

end
-- ==== Proof.Steps.lean ====
/-
# The steps of the program, one lemma for each kind of operation

Each says how one operation, or one guarded operation, moves a device from one state to the next: from the state before
it, running the operation and then `p` is as good as running `p` from the state after it.
-/
module

public import proofs.«01_k».proof.Proof.State

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

/-- Running `p` on device `c` ends as `Q` says. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × SemLoc sig → ℕ) (c : Dev nD)

/-! ## What a transfer leaves behind -/

abbrev xfV (b : Fin 8) : View sig .tc .vmem S256x2048 .f32 := XF.view.slice (rowR b)
abbrev a0V (b : Fin 8) : View sig .tc .hbm S256x2048 .f32 := A0.view.slice (rowR b)
abbrev obV (b : Fin 8) : View sig .tc .vmem S256x2048 .bf16 := OB.view.slice (rowR b)
abbrev v1V (b : Fin 8) : View sig .tc .hbm S256x2048 .bf16 := V1.view.slice (rowR b)
abbrev hfV (h : Fin 2) : View sig .tc .vmem S1x1024 .f32 := SP.view.slice (halfR h)
abbrev slV (p : Dev nD) (h : Fin 2) : View sig .tc .vmem S1x1024 .f32 :=
  (GM.view.slice (slotR p h)).reshape S1x1024 squeezes_S1x1x1024_S1x1024.numel_eq

omit [FloatOps F] in
theorem xfV_set (b : Fin 8) : (xfV b).set = (rowR b).set := View.set_slice_whole _ _
omit [FloatOps F] in
theorem slV_set (p : Dev nD) (h : Fin 2) : (slV p h).set = (slotR p h).set := (View.set_reshape _ _).trans (View.set_slice_whole _ _)

omit [FloatOps F] in
theorem a0V_set (b : Fin 8) : (a0V b).set = (rowR b).set := View.set_slice_whole _ _
theorem a0_pts (b : Fin 8) : (((c : Thread nD τ).loc main_arg0) ↦[(rowR b).set]{fullShare} xa m c : sProp 𝕄)
    = ((a0V b).loc (c : Thread nD τ) ↦[(a0V b).set]{fullShare} xa m c) := by rw [a0V_set]
omit [FloatOps F] in
theorem xf_pts (b : Fin 8) (f) : (((c : Thread nD τ).loc cc0_scratch0) ↦[(rowR b).set]{fullShare} f : sProp 𝕄)
    = ((xfV b).loc (c : Thread nD τ) ↦[(xfV b).set]{fullShare} f) := by rw [xfV_set]

theorem slot_landed (p : Dev nD) (h : Fin 2) (fd) :
    ((slV c h).loc (p : Thread nD τ) ↦[(slV c h).set]{fullShare} (slV c h).write (Elt F) fd (stHalf m c h) Finset.univ : sProp 𝕄) ⊢ slotP p c h (ga m) := by
  rw [pointsTo_congr (write_holds (slV c h) fd (ga m) (stHalf m c h) fun j => congrFun (read_slot m c h) j), slV_set]
  exact BI.Entails.refl _

theorem xf_landed (b : Fin 8) (fd) :
    ((xfV b).loc (c : Thread nD τ) ↦[(xfV b).set]{fullShare} (xfV b).write (Elt F) fd (xblk m c b) Finset.univ : sProp 𝕄) ⊢ xfP c b (xa m c) := by
  rw [pointsTo_congr (write_holds (xfV b) fd (xa m c) (xblk m c b) fun j => congrFun (read_xf m c b) j), View.set_slice_whole]
  exact BI.Entails.refl _

theorem res_landed (b : Fin 8) (fd) :
    ((v1V b).loc (c : Thread nD τ) ↦[(v1V b).set]{fullShare} (v1V b).write (Elt F) fd (outBlk m c b) Finset.univ : sProp 𝕄) ⊢ resP c b (out m c) := by
  rw [pointsTo_congr (write_holds (v1V b) fd (out m c) (outBlk m c b) fun j => congrFun (read_v1 m c b) j), View.set_slice_whole]
  exact BI.Entails.refl _

/-! ## What is owed, step by step -/

theorem oAll_sig {k : ℕ} (hk : k < 16) (hne : c ≠ ⟨k, hk⟩) (a b : ℕ) : oAll c k a b = oAll c (k + 1) a b + tallyAt (barC ⟨k, hk⟩) () 1 := by
  unfold oAll; rw [show oBar c k = _ from oBar_take c ⟨k, hk⟩ hne]; abel
theorem oAll_snd0 {k : ℕ} (hk : k < 16) (hne : c ≠ ⟨k, hk⟩) (a b : ℕ) : oAll c a k b = oAll c a (k + 1) b + tallyAt (rcvC ⟨k, hk⟩ 0 c) () Nst := by
  unfold oAll; rw [show oRcv c 0 k = _ from oRcv_take c ⟨k, hk⟩ 0 hne]; abel
theorem oAll_snd1 {k : ℕ} (hk : k < 16) (hne : c ≠ ⟨k, hk⟩) (a b : ℕ) : oAll c a b k = oAll c a b (k + 1) + tallyAt (rcvC ⟨k, hk⟩ 1 c) () Nst := by
  unfold oAll; rw [show oRcv c 1 k = _ from oRcv_take c ⟨k, hk⟩ 1 hne]; abel
theorem oAll_skip0 {k : ℕ} (hk : c.val = k) (a b : ℕ) : oAll c a k b = oAll c a (k + 1) b := by
  subst hk; unfold oAll; rw [oRcv_skip]
theorem oAll_skip1 {k : ℕ} (hk : c.val = k) (a b : ℕ) : oAll c a b k = oAll c a b (k + 1) := by
  subst hk; unfold oAll; rw [oRcv_skip]

section Steps
variable {sg bw ci wi ob co wo s0 g0 d0 w0 r0 s1 g1 d1 w1 r1 : ℕ}
variable {α : Type}

/-! ## Signals -/

theorem st_sig {k : ℕ} (hk : k < 16) {cond : Prop} {_ : Decidable cond} (hc : cond ↔ c ≠ ⟨k, hk⟩) {dst : cond → Dev nD} (hd : ∀ h, dst h = ⟨k, hk⟩)
    {p : Prog (TpuEff nD τ sig (Elt F) Λ₀ .tc) α} {Q : α → sProp 𝕄} (hn : St m K c (k + 1) bw ci wi ob co wo s0 g0 d0 w0 r0 s1 g1 d1 w1 r1 ⊢ WP c p Q) :
    St m K c k bw ci wi ob co wo s0 g0 d0 w0 r0 s1 g1 d1 w1 r1
      ⊢ WP c (dite cond (fun h => semSignalWord (dst h) barS 1#32 >>= fun _ => p) (fun _ => p)) Q := by
  by_cases h : cond
  · have hne := hc.mp h
    rw [dif_pos h, hd h]
    unfold St owing
    rw [seg_pop (others c (sigTok (F := F) c)) k 16 hk hk, others_ne c _ _ hne]
    unfold sigTok
    simp only [semSignalWord, Prog.bind_op, Prog.bind_ret]
    iintro ⟨#He, ⟨%W, Ho⟩, ⟨⟨Htok, Hpay⟩, Hs⟩, H⟩
    iapply (Rounds.wp_signal 𝒱₀ ER (Rd m) (c : Thread nD τ) none (dst := ((⟨k, hk⟩ : Dev nD) : Thread nD τ)) (κ := K (⟨k, hk⟩, .reg barS)) (r := 0)
        (d := c) (by rw [duties_tc, duty_bar]; exact Finset.mem_erase.mpr ⟨hne, Finset.mem_univ _⟩) ((amount_eq m _ c).trans rfl) ()
        (O₀ := oAll c k d0 d1) (oAll c (k + 1) d0 d1) (oAll_sig c hk hne d0 d1)) $$ [Ho Htok Hpay]
    · isplitr; · iapply (env_cell m K ⟨k, hk⟩ (.reg barS)); iexact He
      isplitl [Ho]; · iexact Ho
      isplitl [Htok]; · iexact Htok
      isplitl [Hpay]; · rw [payload_eq, paid_bar]; iexact Hpay
      iapply (env_reached m K ⟨k, hk⟩ (.reg barS)); iexact He
    iintro Ho
    iapply hn
    unfold St owing
    isplitr; · iexact He
    isplitl [Ho]; · iexists W; iexact Ho
    isplitl [Hs]; · iexact Hs
    iexact H
  · have he : c = ⟨k, hk⟩ := by by_contra hne; exact h (hc.mpr hne)
    rw [dif_neg h]
    unfold St owing
    rw [seg_pop (others c (sigTok (F := F) c)) k 16 hk hk,
      show oAll c k d0 d1 = oAll c (k + 1) d0 d1 by unfold oAll; rw [show k = c.val by rw [he], oBar_skip]]
    iintro ⟨#He, Ho, ⟨-, Hs⟩, H⟩
    iapply hn
    unfold St owing
    isplitr; · iexact He
    isplitl [Ho]; · iexact Ho
    isplitl [Hs]; · iexact Hs
    iexact H

/-! ## The copies in -/

theorem st_in {k : ℕ} (hk : k < 8) (hw : wi ≤ k) {sem : DmaSem sig} (hsem : sem = inS ⟨k, hk⟩) {h1 h2 hs hd ht}
    {p : Prog (TpuEff nD τ sig (Elt F) Λ₀ .tc) α} {Q : α → sProp 𝕄} (hn : St m K c sg bw (k + 1) wi ob co wo s0 g0 d0 w0 r0 s1 g1 d1 w1 r1 ⊢ WP c p Q) :
    St m K c sg bw k wi ob co wo s0 g0 d0 w0 r0 s1 g1 d1 w1 r1
      ⊢ WP c (Prog.lift (.enqueueDma (A0.slice (rowR ⟨k, hk⟩) h1) (.here (XF.slice (rowR ⟨k, hk⟩) h2)) (.dma sem) hs hd ht) >>= fun _ => p) Q := by
  subst hsem
  simp only [Prog.lift, Prog.bind_op, Prog.bind_ret]
  unfold St InP
  rw [seg_pop (inTok m c) k 8 hk hk]
  unfold inTok argP xfP
  iintro ⟨#He, Ho, Hs, HB, ⟨⟨⟨Htok, Ha, ⟨%f, Hx⟩⟩, Ht⟩, Hcr, HI⟩, H⟩
  iapply (Rounds.wp_copy_pointsTo 𝒱₀ ER (Rd m) (c : Thread nD τ) none (κ := K (c, .dma (inS ⟨k, hk⟩))) (r := 0) (d := c) (fd := f) (fs := xa m c)
      (src := A0.slice (rowR ⟨k, hk⟩) h1) (dst := XF.slice (rowR ⟨k, hk⟩) h2)
      (by rw [duties_tc, duty_in]; exact Finset.mem_singleton_self _) () Nin rfl ((amount_eq m _ c).trans (amnt_in _))
      (by rw [payload_eq, paid_in]; exact sep_mono (xf_landed m c ⟨k, hk⟩ f) (Entails.of_eq (by rw [a0V_set]; rfl)))) $$ [Htok Ha Hx]
  · isplitr; · iapply (env_cell m K c (.dma (inS ⟨k, hk⟩))); iexact He
    isplitl [Ha]; · iapply (Entails.of_eq (a0_pts m c ⟨k, hk⟩)); iexact Ha
    isplitl [Hx]; · iapply (Entails.of_eq (xf_pts c ⟨k, hk⟩ f)); iexact Hx
    isplitl [Htok]; · iexact Htok
    iapply (env_reached m K c (.dma (inS ⟨k, hk⟩))); iexact He
  iintro Hc
  iapply hn
  unfold St InP
  rw [seg_push (fun b : Fin 8 => (cred (tallyAt (inC c b) () Nin) : sProp 𝕄)) wi k hk hw]
  isplitr; · iexact He
  isplitl [Ho]; · iexact Ho
  isplitl [Hs]; · iexact Hs
  isplitl [HB]; · iexact HB
  isplitr [H]
  · isplitl [Ht]; · iexact Ht
    isplitl [Hc Hcr]; · isplitl [Hc] <;> iassumption
    iexact HI
  iexact H

theorem st_wi {k : ℕ} (hk : k < 8) (hw : k < ci) {sem : DmaSem sig} (hsem : sem = inS ⟨k, hk⟩) {sp sp' : Space} {s s' : Shape} {e e' : EltTy}
    {src : Memref sig .tc sp' s' e'} {dst : Memref sig .tc sp s e} {hs hd} (hN : dst.view.dmaCredit = Nin)
    {p : Prog (TpuEff nD τ sig (Elt F) Λ₀ .tc) α} {Q : α → sProp 𝕄} (hn : St m K c sg bw ci (k + 1) ob co wo s0 g0 d0 w0 r0 s1 g1 d1 w1 r1 ⊢ WP c p Q) :
    St m K c sg bw ci k ob co wo s0 g0 d0 w0 r0 s1 g1 d1 w1 r1 ⊢ WP c (Prog.lift (.waitDma2 sem src dst hs hd) >>= fun _ => p) Q := by
  subst hsem
  simp only [Prog.lift, Prog.bind_op, Prog.bind_ret]
  unfold St InP owing
  rw [seg_pop (fun b : Fin 8 => (cred (tallyAt (inC c b) () Nin) : sProp 𝕄)) k ci hk hw, seg_pop (fun b : Fin 8 => pos (F := F) c (.dma (inS b)) 0) k 8 hk hk]
  iintro ⟨#He, ⟨%W, Ho⟩, Hs, HB, ⟨Ht, ⟨Hc, Hcr⟩, HI, ⟨Hat, Hp0⟩, Hp1⟩, H⟩
  unfold pos
  iapply (Rounds.wp_wait_rest_token 𝒱₀ ER (Rd m) (c : Thread nD τ) none (κ := K (c, .dma (inS ⟨k, hk⟩)))
      (wpE_waitDma2_eq 𝒱₀ (c : Thread nD τ) none Set.univ) (Set.mem_univ _) () (O := oAll c sg d0 d1) (W := W) (R := 0) (m := 0) (T := ∅)
      (by rw [expect_one m c _ c (duty_in c _), amnt_in, hN, Nat.zero_add])) $$ [Hc Ho Hat]
  · isplitr; · iapply (env_cell m K c (.dma (inS ⟨k, hk⟩))); iexact He
    isplitl [Hc]; · rw [hN]; iexact Hc
    isplitl [Ho]; · iexact Ho
    isplitr; · iapply (env_low m K c (inS ⟨k, hk⟩) (by show k < 48; omega) sg d0 d1); iexact He
    iexact Hat
  rw [rest_one m c _ c (duty_in c _), paid_in]
  iintro ⟨Ho, Hat, -, Hpay⟩
  iapply hn
  unfold St InP owing
  rw [seg_push (inPay m c) 0 k hk (Nat.zero_le _), seg_push (fun b : Fin 8 => pos (F := F) c (.dma (inS b)) 1) 0 k hk (Nat.zero_le _)]
  isplitr; · iexact He
  isplitl [Ho]; · iexists _; iexact Ho
  isplitl [Hs]; · iexact Hs
  isplitl [HB]; · iexact HB
  isplitr [H]
  · isplitl [Ht]; · iexact Ht
    isplitl [Hcr]; · iexact Hcr
    isplitl [Hpay HI]; · isplitl [Hpay] <;> iassumption
    isplitl [Hp0]; · iexact Hp0
    isplitl [Hat]; · unfold pos; iexact Hat
    iexact Hp1
  iexact H

theorem st_ldx (k : ℕ) (hk : k < 8) (hw : k < wi) {hl} {Kt : Vec F S256x2048 .f32 → Prog (TpuEff nD τ sig (Elt F) Λ₀ .tc) α} {Q : α → sProp 𝕄}
    (hn : St m K c sg bw ci wi ob co wo s0 g0 d0 w0 r0 s1 g1 d1 w1 r1 ⊢ WP c (Kt (xblk m c ⟨k, hk⟩)) Q) :
    St m K c sg bw ci wi ob co wo s0 g0 d0 w0 r0 s1 g1 d1 w1 r1 ⊢ WP c (Prog.lift (.load XF (rowR ⟨k, hk⟩).toLoadRect hl) >>= Kt) Q := by
  simp only [Prog.lift, Prog.bind_op, Prog.bind_ret]
  unfold St InP
  iintro ⟨#He, Ho, Hs, HB, ⟨Ht, Hc, HI, Hp⟩, H⟩
  ihave HI := (seg_lend (inPay m c) 0 k wi hk (Nat.zero_le _) hw) $$ HI
  unfold inPay xfP
  icases HI with ⟨⟨Hx, Ha⟩, Hback⟩
  iapply (wp_load_rect 𝒱₀ (c : Thread nD τ) none Set.univ (m := XF) (r := rowR ⟨k, hk⟩) (View.set_slice_whole _ _).subset) $$ Hx
  iintro Hx
  iapply hn
  unfold St InP
  isplitr; · iexact He
  isplitl [Ho]; · iexact Ho
  isplitl [Hs]; · iexact Hs
  isplitl [HB]; · iexact HB
  isplitr [H]
  · isplitl [Ht]; · iexact Ht
    isplitl [Hc]; · iexact Hc
    isplitl [Hx Ha Hback]; · iapply Hback; isplitl [Hx] <;> iassumption
    iexact Hp
  iexact H

end Steps

end Cert.Softmax

end
-- ==== Proof.HalfSteps.lean ====
/-
# The steps on a half of the row of sums

The same as in `Steps`, for the operations that concern one half of a device's row of sums: computing it, storing it in
the device's own table, sending it, awaiting the others' halves, and reading the table. Each is proved once, at a half `h`,
and lifted to a whole state at half 0 and at half 1.
-/
module

public import proofs.«01_k».proof.Proof.Steps

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## The lifts -/

section Lift
variable {sg bw ci wi ob co wo s0 g0 d0 w0 r0 s1 g1 d1 w1 r1 : ℕ}

theorem lift0 {s g d w r : ℕ} {A B : sProp 𝕄}
    (hcore : iprop(Env m K ∗ owing (F := F) c sg d0 d1 ∗ Half m c 0 bw s0 g0 d0 w0 r0)
      ⊢ iprop((owing (F := F) c sg d d1 ∗ Half m c 0 bw s g d w r -∗ A) -∗ B))
    (hn : St m K c sg bw ci wi ob co wo s g d w r s1 g1 d1 w1 r1 ⊢ A) : St m K c sg bw ci wi ob co wo s0 g0 d0 w0 r0 s1 g1 d1 w1 r1 ⊢ B := by
  unfold St
  iintro ⟨#He, Ho, Hs, HB, HI, HO, H0, H1⟩
  iapply hcore $$ [Ho H0]
  · isplitr; · iexact He
    isplitl [Ho] <;> iassumption
  iintro ⟨Ho, H0⟩
  iapply hn
  unfold St
  isplitr; · iexact He
  isplitl [Ho]; · iexact Ho
  isplitl [Hs]; · iexact Hs
  isplitl [HB]; · iexact HB
  isplitl [HI]; · iexact HI
  isplitl [HO]; · iexact HO
  isplitl [H0] <;> iassumption

theorem lift1 {s g d w r : ℕ} {A B : sProp 𝕄}
    (hcore : iprop(Env m K ∗ owing (F := F) c sg d0 d1 ∗ Half m c 1 bw s1 g1 d1 w1 r1)
      ⊢ iprop((owing (F := F) c sg d0 d ∗ Half m c 1 bw s g d w r -∗ A) -∗ B))
    (hn : St m K c sg bw ci wi ob co wo s0 g0 d0 w0 r0 s g d w r ⊢ A) : St m K c sg bw ci wi ob co wo s0 g0 d0 w0 r0 s1 g1 d1 w1 r1 ⊢ B := by
  unfold St
  iintro ⟨#He, Ho, Hs, HB, HI, HO, H0, H1⟩
  iapply hcore $$ [Ho H1]
  · isplitr; · iexact He
    isplitl [Ho] <;> iassumption
  iintro ⟨Ho, H1⟩
  iapply hn
  unfold St
  isplitr; · iexact He
  isplitl [Ho]; · iexact Ho
  isplitl [Hs]; · iexact Hs
  isplitl [HB]; · iexact HB
  isplitl [HI]; · iexact HI
  isplitl [HO]; · iexact HO
  isplitl [H0] <;> iassumption

end Lift

/-! ## A half of the row of sums -/

theorem rowP_low (h : Fin 2) {s : ℕ} (hs : s < 5) (d w : ℕ) : RowP m c h s d w =
    iprop(seg (fun b : Fin 4 => iprop(∃ f, colP (F := F) c (cb h b) f)) s 4 ∗ seg (fun b : Fin 4 => colP c (cb h b) (st m c)) 0 s) := if_pos hs
theorem rowP_high (h : Fin 2) (d w : ℕ) : RowP m c h 5 d w =
    iprop(halfP m c h (restSh 16) ∗ seg (fun p : Dev nD => halfP m c h (partSh p.val)) d 16
      ∗ seg (fun p : Dev nD => if p = c then halfP m c h (partSh p.val) else cred (tallyAt (sndC c h p) () Nst)) w d
      ∗ seg (fun p : Dev nD => halfP m c h (partSh p.val)) 0 w) := if_neg (by decide)

omit [FloatOps F] in
theorem sep_turn (P Q R : sProp 𝕄) : iprop((P ∗ Q) ∗ R) ⊢ iprop(Q ∗ P ∗ R) := by
  iintro ⟨⟨H1, H2⟩, H3⟩
  isplitl [H2]; · iexact H2
  isplitl [H1] <;> iassumption
omit [FloatOps F] in
theorem sep_turn' (P Q R : sProp 𝕄) : iprop(Q ∗ P ∗ R) ⊢ iprop((P ∗ Q) ∗ R) := by
  iintro ⟨H2, H1, H3⟩
  isplitl [H1 H2]; · isplitl [H1] <;> iassumption
  iexact H3

/-- A full share of a half is the rest after `n` devices' shares, and those. -/
theorem half_shares (h : Fin 2) (n : ℕ) (hn : n ≤ 16) : (halfP m c h fullShare : sProp 𝕄)
    = iprop(halfP m c h (restSh n) ∗ seg (fun p : Dev nD => halfP m c h (partSh p.val)) 0 n) := by
  induction n with
  | zero => rw [seg_nil _ _ _ (Nat.le_refl _)]; exact (BI.Entails.antisymm (sep_emp (PROP := sProp 𝕄)).1 (sep_emp (PROP := sProp 𝕄)).2).symm
  | succ n ih =>
    rw [ih (by omega), seg_push (fun p : Dev nD => (halfP m c h (partSh p.val) : sProp 𝕄)) 0 n hn (Nat.zero_le _)]
    have hs : (halfP m c h (restSh n) : sProp 𝕄) = iprop(halfP m c h (partSh n) ∗ halfP m c h (restSh (n + 1))) := by
      unfold halfP
      exact BI.Entails.antisymm (pointsTo_share (restSh_split n)).1 (pointsTo_share (restSh_split n)).2
    rw [hs]
    exact BI.Entails.antisymm (sep_turn _ _ _) (sep_turn' _ _ _)

/-- The computed blocks of a half are the half. -/
theorem half_cols (h : Fin 2) : (halfP m c h fullShare : sProp 𝕄) = bigSep Finset.univ (fun b : Fin 4 => colP c (cb h b) (st m c)) := by
  unfold halfP colP
  rw [← col_cover h, pointsTo_biUnion _ _ (col_disj h)]

theorem row_conv (h : Fin 2) : RowP m c h 4 0 0 ⊢ RowP m c h 5 0 0 := by
  rw [rowP_low m c h (by decide), rowP_high, seg_nil _ 4 4 (Nat.le_refl _), seg_full _ 4 (Nat.le_refl _), ← half_cols, half_shares m c h 16 (Nat.le_refl _),
    seg_nil _ 0 0 (Nat.le_refl _), seg_nil _ 0 0 (Nat.le_refl _)]
  iintro ⟨-, H1, H2⟩
  isplitl [H1]; · iexact H1
  isplitl [H2]; · iexact H2
  isplitl [] <;> iempintro

theorem col_written (b : Fin 8) (f : Buf (Elt F) ((c : Thread nD τ).loc cc0_scratch2)) :
    (((c : Thread nD τ).loc cc0_scratch2) ↦[(colR b).set]{fullShare} (SP.access (colR b)).write (Elt F) f (stBlk m c b) Finset.univ : sProp 𝕄)
      ⊢ ((c : Thread nD τ).loc cc0_scratch2) ↦[(colR b).set]{fullShare} st m c :=
  Entails.of_eq (pointsTo_congr fun i hi => write_holds (SP.view.slice (colR b)) f (st m c) (stBlk m c b) (fun j => congrFun (read_sp m c b) j) i
    (by rw [View.set_slice_whole]; exact hi))

theorem slot_written (p : Dev nD) (h : Fin 2) (f : Buf (Elt F) ((p : Thread nD τ).loc cc0_scratch3)) :
    (((p : Thread nD τ).loc cc0_scratch3) ↦[(slotR p h).set]{fullShare} (GM.access (slotR p h)).write (Elt F) f (k0_pay5 (stHalf m p h)) Finset.univ : sProp 𝕄)
      ⊢ ((p : Thread nD τ).loc cc0_scratch3) ↦[(slotR p h).set]{fullShare} ga m :=
  Entails.of_eq (pointsTo_congr fun i hi => write_holds (GM.view.slice (slotR p h)) f (ga m) (k0_pay5 (stHalf m p h)) (fun j => congrFun (read_slot3 m p h) j) i
    (by rw [View.set_slice_whole]; exact hi))

/-- Half of line `off` of a table, as a transfer names it. -/
abbrev slotM (off : Fin 3 → ℕ) (inb : ∀ a, off a + S1x1x1024.size a ≤ S16x1x2048.size a) : Memref sig .tc .vmem S1x1024 .f32 :=
  (GM.slice (Rect.unit (s := S16x1x2048) off S1x1x1024.size inb) (fun _ => rfl)).squeeze S1x1024 squeezes_S1x1x1024_S1x1024

omit [FloatOps F] in
theorem half_pts (h : Fin 2) (q : PosShare TreeShare) (f) : (((c : Thread nD τ).loc cc0_scratch2) ↦[(halfR h).set]{q} f : sProp 𝕄)
    = ((hfV h).loc (c : Thread nD τ) ↦[(hfV h).set]{q} f) := by rw [show (hfV h).set = (halfR h).set from View.set_slice_whole _ _]
omit [FloatOps F] in
theorem slot_pts (p : Dev nD) (h : Fin 2) (f) : (((p : Thread nD τ).loc cc0_scratch3) ↦[(slotR c h).set]{fullShare} f : sProp 𝕄)
    = ((slV c h).loc (p : Thread nD τ) ↦[(slV c h).set]{fullShare} f) := by rw [slV_set]

omit [FloatOps F] in
theorem others_univ (P : Dev nD → sProp 𝕄) : iprop(P c ∗ seg (others c P) 0 16) = bigSep Finset.univ P := by
  rw [seg_full _ 16 (Nat.le_refl _), bigSep_erase (Finset.mem_univ c) (Φ := P), bigSep_erase (Finset.mem_univ c) (Φ := others c P), others_self,
    bigSep_congr fun p hp => others_ne c P p (Ne.symm (Finset.ne_of_mem_erase hp))]
  exact BI.Entails.antisymm (BI.sep_mono (BI.Entails.refl _) (emp_sep (PROP := sProp 𝕄)).1) (BI.sep_mono (BI.Entails.refl _) (emp_sep (PROP := sProp 𝕄)).2)

/-- The lines of a half of the table are the half. -/
theorem tab_slots (h : Fin 2) : iprop(slotP c c h (ga m) ∗ seg (others c fun p => slotP c p h (ga m)) 0 16)
    = (((c : Thread nD τ).loc cc0_scratch3) ↦[(tabR h).set]{fullShare} ga m : sProp 𝕄) := by
  rw [others_univ c (fun p => slotP c p h (ga m))]
  unfold slotP
  rw [← slot_cover h, pointsTo_biUnion _ _ (slot_disj h)]

section Core
variable {sg a b bw s g d w r : ℕ} (h : Fin 2)
variable {α : Type}

theorem core_sto {k : ℕ} (hk : k < 4) {v : Vec F S1x256 .f32} (hv : v = stBlk m c (cb h ⟨k, hk⟩)) {hx hm}
    {p : Prog (TpuEff nD τ sig (Elt F) Λ₀ .tc) α} {Q : α → sProp 𝕄} :
    iprop(Env m K ∗ owing (F := F) c sg a b ∗ Half m c h bw k g d w r)
      ⊢ iprop((owing (F := F) c sg a b ∗ Half m c h bw (k + 1) g d w r -∗ WP c p Q)
        -∗ WP c (Prog.lift (.store SP (colR (cb h ⟨k, hk⟩)) v Finset.univ hx hm) >>= fun _ => p) Q) := by
  subst hv
  simp only [Prog.lift, Prog.bind_op, Prog.bind_ret]
  unfold Half
  rw [rowP_low m c h (show k < 5 by omega), rowP_low m c h (show k + 1 < 5 by omega),
    seg_pop (fun b : Fin 4 => iprop(∃ f, colP (F := F) c (cb h b) f)) k 4 hk hk, seg_push (fun b : Fin 4 => colP c (cb h b) (st m c)) 0 k hk (Nat.zero_le _)]
  iintro ⟨-, Ho, ⟨⟨⟨%f, Hx⟩, Hs⟩, Hd⟩, H⟩ Hk
  unfold colP
  iapply (wp_store 𝒱₀ (c : Thread nD τ) none Set.univ (m := SP) (r := colR (cb h ⟨k, hk⟩)) (f := f) (View.set_slice_whole _ _).subset) $$ Hx
  iintro Hx
  iapply Hk
  isplitl [Ho]; · iexact Ho
  isplitr [H]
  · isplitl [Hs]; · iexact Hs
    isplitl [Hx]
    · iapply (col_written m c (cb h ⟨k, hk⟩) f); iexact Hx
    iexact Hd
  iexact H

/-- Reading a computed block's place before it is computed. -/
theorem core_ldcol {k : ℕ} (hk : k < 4) {hl} {Kt : Vec F S1x256 .f32 → Prog (TpuEff nD τ sig (Elt F) Λ₀ .tc) α} {A : sProp 𝕄} {Q : α → sProp 𝕄}
    (hA : ∀ v, A ⊢ WP c (Kt v) Q) :
    iprop(Env m K ∗ owing (F := F) c sg a b ∗ Half m c h bw k g d w r)
      ⊢ iprop((owing (F := F) c sg a b ∗ Half m c h bw k g d w r -∗ A)
        -∗ WP c (Prog.lift (.load SP (colR (cb h ⟨k, hk⟩)).toLoadRect hl) >>= Kt) Q) := by
  simp only [Prog.lift, Prog.bind_op, Prog.bind_ret]
  unfold Half
  rw [rowP_low m c h (show k < 5 by omega), seg_pop (fun b : Fin 4 => iprop(∃ f, colP (F := F) c (cb h b) f)) k 4 hk hk]
  iintro ⟨-, Ho, ⟨⟨⟨%f, Hx⟩, Hs⟩, Hd⟩, H⟩ Hk
  unfold colP
  iapply (wp_load_rect 𝒱₀ (c : Thread nD τ) none Set.univ (m := SP) (r := colR (cb h ⟨k, hk⟩)) (f := f) (View.set_slice_whole _ _).subset) $$ Hx
  iintro Hx
  iapply (hA _)
  iapply Hk
  isplitl [Ho]; · iexact Ho
  isplitr [H]
  · isplitl [Hs Hx]
    · isplitl [Hx]; · iexists f; iexact Hx
      iexact Hs
    iexact Hd
  iexact H

/-- Storing the half in the device's own line of its table. -/
theorem core_own {k : ℕ} {q : Dev nD} (hq : q.val = k) {cond : Prop} {_ : Decidable cond} (hc : cond ↔ c = q)
    {pay : Vec F S1x1024 .f32 → FVec F S1x1x1024 .f32} (hpay : pay = k0_pay5) {hl1 : cond → _} {hl2 : cond → _} {hx : cond → _} {hm : cond → _}
    {p : Prog (TpuEff nD τ sig (Elt F) Λ₀ .tc) α} {Q : α → sProp 𝕄} :
    iprop(Env m K ∗ owing (F := F) c sg a b ∗ Half m c h bw 5 k d w r)
      ⊢ iprop((owing (F := F) c sg a b ∗ Half m c h bw 5 (k + 1) d w r -∗ WP c p Q)
        -∗ WP c (dite cond (fun hh => Prog.lift (.load SP (halfR h).toLoadRect (hl1 hh)) >>= fun v =>
            Prog.lift (.load GM (slotR q h).toLoadRect (hl2 hh)) >>= fun _ =>
            Prog.lift (.store GM (slotR q h) (pay v) Finset.univ (hx hh) (hm hh)) >>= fun _ => p) (fun _ => p)) Q) := by
  subst hq hpay
  by_cases hh : cond
  · have he := hc.mp hh
    rw [dif_pos hh]
    generalize hl1 hh = hl1; generalize hl2 hh = hl2; generalize hx hh = hx; generalize hm hh = hm
    clear hc
    subst q
    simp only [Prog.lift, Prog.bind_op, Prog.bind_ret]
    unfold Half OwnP
    rw [rowP_high, if_pos (Nat.le_refl _), if_neg (Nat.not_succ_le_self _)]
    unfold halfP anySlot slotP
    iintro ⟨-, Ho, ⟨Hr, Hrow⟩, ⟨%f, Hx⟩, H⟩ Hk
    iapply (wp_load_rect 𝒱₀ (c : Thread nD τ) none Set.univ (m := SP) (r := halfR h) (View.set_slice_whole _ _).subset) $$ Hr
    iintro Hr
    rw [read_half m c h]
    iapply (wp_load_rect 𝒱₀ (c : Thread nD τ) none Set.univ (m := GM) (r := slotR c h) (f := f) (View.set_slice_whole _ _).subset) $$ Hx
    iintro Hx
    iapply (wp_store 𝒱₀ (c : Thread nD τ) none Set.univ (m := GM) (r := slotR c h) (f := f) (View.set_slice_whole _ _).subset) $$ Hx
    iintro Hx
    iapply Hk
    isplitl [Ho]; · iexact Ho
    isplitl [Hr Hrow]; · isplitl [Hr] <;> iassumption
    isplitl [Hx]; · iapply (slot_written m c h f); iexact Hx
    iexact H
  · rw [dif_neg hh]
    have hne : c.val ≠ q.val := fun e => hh (hc.mpr (Fin.ext e))
    unfold Half OwnP
    rw [show (if q.val ≤ c.val then anySlot c c h else slotP c c h (ga m) : sProp 𝕄) = if q.val + 1 ≤ c.val then anySlot c c h else slotP c c h (ga m) from by
      by_cases hl : q.val ≤ c.val
      · rw [if_pos hl, if_pos (by omega)]
      · rw [if_neg hl, if_neg (by omega)]]
    iintro ⟨-, H⟩ Hk
    iapply Hk
    iexact H

/-- Sending the half to device `q`, the `k`th. -/
theorem core_snd {k : ℕ} {q : Dev nD} (hq : q.val = k) (hw : w ≤ k) {O₀ O : CellTallies nD τ sig Unit}
    (hO : c ≠ q → O₀ = O + tallyAt (rcvC q h c) () Nst) (hO' : c = q → O₀ = O) {cond : Prop} {_ : Decidable cond} (hc : cond ↔ c ≠ q)
    {dv : cond → Dev nD} (hd : ∀ h, dv h = q) {sS : cond → DmaSem sig} (hsS : ∀ hh, sS hh = sndS h q) {sem : cond → DmaSem sig} (hsem : ∀ hh, sem hh = rcvS h c)
    {off : Fin 3 → ℕ} {inb : cond → ∀ a, off a + S1x1x1024.size a ≤ S16x1x2048.size a} (hoff : off = ![c.val, 0, 1024 * h.val]) {h1 : cond → _}
    {hsc : ∀ hh : cond, (slotM off (inb hh)).view.ref.isScScratch = false} {hs : ∀ hh : cond, (SP.slice (halfR h) (h1 hh)).view.WordExact}
    {hdd : ∀ hh : cond, (slotM off (inb hh)).view.WordExact}
    {ht : ∀ hh : cond, DmaTarget.Typed .vmem (.dma (sem hh)) (.remote (Dev.tc (dv hh)) (slotM off (inb hh)) (.dma (sS hh)) (hsc hh))}
    {p : Prog (TpuEff nD τ sig (Elt F) Λ₀ .tc) α} {Q : α → sProp 𝕄} :
    iprop(Env m K ∗ (∃ W : Waits sig Unit, owes (c : Thread nD τ) O₀ W) ∗ Half m c h 1 5 g k w r)
      ⊢ iprop(((∃ W : Waits sig Unit, owes (c : Thread nD τ) O W) ∗ Half m c h 1 5 g (k + 1) w r -∗ WP c p Q)
        -∗ WP c (dite cond (fun hh => Prog.lift (.enqueueDma (SP.slice (halfR h) (h1 hh))
            (.remote (Dev.tc (dv hh)) (slotM off (inb hh)) (.dma (sS hh)) (hsc hh))
            (.dma (sem hh)) (hs hh) (hdd hh) (ht hh)) >>= fun _ => p) (fun _ => p)) Q) := by
  subst hq hoff
  have hk : q.val < 16 := q.isLt
  by_cases hh : cond
  · have hne := hc.mp hh
    rw [dif_pos hh]
    generalize ht hh = ht; generalize hdd hh = hdd; generalize hs hh = hs; generalize hsc hh = hsc at ht ⊢
    have e1 := hd hh; have e2 := hsS hh; have e3 := hsem hh
    generalize dv hh = n1 at *; generalize sS hh = n2 at *; generalize sem hh = n3 at *
    subst e1 e2 e3
    simp only [Prog.lift, Prog.bind_op, Prog.bind_ret]
    unfold Half SndP
    rw [rowP_high, rowP_high, if_neg (by decide), if_neg (by decide), seg_pop (fun p : Dev nD => (halfP m c h (partSh p.val) : sProp 𝕄)) n1.val 16 hk hk,
      seg_pop (others c fun p => anySlot (F := F) p c h) n1.val 16 hk hk, seg_pop (others c (sndTok (F := F) c h)) n1.val 16 hk hk,
      seg_push (fun p : Dev nD => (if p = c then halfP m c h (partSh p.val) else cred (tallyAt (sndC c h p) () Nst) : sProp 𝕄)) w n1.val hk hw,
      others_ne _ _ _ hne, others_ne _ _ _ hne, if_neg (Ne.symm hne)]
    unfold sndTok anySlot slotP
    iintro ⟨#He, ⟨%W, Ho⟩, ⟨Hr, ⟨Hp, Hps⟩, Hm, Hd⟩, Hown, ⟨⟨⟨%f, Hx⟩, Hxs⟩, ⟨⟨Ht1, Ht2⟩, Hts⟩, Hpos⟩, H⟩ Hk
    iapply (Rounds.wp_send_pointsTo 𝒱₀ ER (Rd m) (c : Thread nD τ) none (c' := (n1 : Thread nD τ)) (κ₁ := K (c, .dma (sndS h n1))) (κ₂ := K (n1, .dma (rcvS h c)))
        (r₁ := 0) (r₂ := 0) (d₁ := c) (d₂ := c) (fd := f) (fs := st m c) (q := partSh n1.val)
        (by rw [duties_tc, duty_snd c h n1 hne]; exact Finset.mem_singleton_self _)
        (by rw [duties_tc, duty_rcv n1 h c (Ne.symm hne)]; exact Finset.mem_singleton_self _)
        () () Nst rfl ((amount_eq m _ c).trans (amnt_snd h n1)) ((amount_eq m _ c).trans (amnt_rcv h c)) O (hO hne) (W := W)
        (by rw [payload_eq, paid_snd]; exact Entails.of_eq (half_pts c h (partSh n1.val) (st m c)).symm)
        (by rw [payload_eq, paid_rcv]; exact slot_landed m c n1 h f)) $$ [Hp Hx Ho Ht1 Ht2]
    · isplitr; · iapply (env_cell m K c (.dma (sndS h n1))); iexact He
      isplitr; · iapply (env_cell m K n1 (.dma (rcvS h c))); iexact He
      isplitl [Hp]; · unfold halfP; iapply (Entails.of_eq (half_pts c h (partSh n1.val) (st m c))); iexact Hp
      isplitl [Hx]; · iapply (Entails.of_eq (slot_pts c n1 h f)); iexact Hx
      isplitl [Ho]; · iexact Ho
      isplitl [Ht1]; · iexact Ht1
      isplitr; · iapply (env_reached m K c (.dma (sndS h n1))); iexact He
      isplitl [Ht2]; · iexact Ht2
      iapply (env_reached m K n1 (.dma (rcvS h c))); iexact He
    iintro ⟨Hc, Ho⟩
    iapply Hk
    isplitl [Ho]; · iexists W; iexact Ho
    isplitl [Hr Hps Hm Hd Hc]
    · isplitl [Hr]; · iexact Hr
      isplitl [Hps]; · iexact Hps
      isplitl [Hc Hm]; · isplitl [Hc] <;> iassumption
      iexact Hd
    isplitl [Hown]; · iexact Hown
    isplitl [Hxs Hts Hpos]
    · isplitl [Hxs]; · iexact Hxs
      isplitl [Hts]; · iexact Hts
      iexact Hpos
    iexact H
  · have he : c = q := by by_contra hne; exact hh (hc.mpr hne)
    rw [dif_neg hh, hO' he]
    clear hd hsem hsS hO hO' hc
    subst he
    unfold Half SndP
    rw [rowP_high, rowP_high, if_neg (by decide), if_neg (by decide), seg_pop (fun p : Dev nD => (halfP m c h (partSh p.val) : sProp 𝕄)) c.val 16 hk hk,
      seg_pop (others c fun p => anySlot (F := F) p c h) c.val 16 hk hk, seg_pop (others c (sndTok (F := F) c h)) c.val 16 hk hk,
      seg_push (fun p : Dev nD => (if p = c then halfP m c h (partSh p.val) else cred (tallyAt (sndC c h p) () Nst) : sProp 𝕄)) w c.val hk hw,
      if_pos rfl]
    iintro ⟨-, Ho, ⟨Hr, ⟨Hp, Hps⟩, Hm, Hd⟩, Hown, ⟨⟨-, Hxs⟩, ⟨-, Hts⟩, Hpos⟩, H⟩ Hk
    iapply Hk
    isplitl [Ho]; · iexact Ho
    isplitl [Hr Hps Hm Hd Hp]
    · isplitl [Hr]; · iexact Hr
      isplitl [Hps]; · iexact Hps
      isplitl [Hp Hm]; · isplitl [Hp] <;> iassumption
      iexact Hd
    isplitl [Hown]; · iexact Hown
    isplitl [Hxs Hts Hpos]
    · isplitl [Hxs]; · iexact Hxs
      isplitl [Hts]; · iexact Hts
      iexact Hpos
    iexact H

/-- Awaiting the half of device `q`, the `k`th, once nothing is owed. -/
theorem core_rcv {k : ℕ} {q : Dev nD} (hq : q.val = k) {cond : Prop} {_ : Decidable cond} (hc : cond ↔ c ≠ q)
    {sem : cond → DmaSem sig} (hsem : ∀ hh, sem hh = rcvS h q) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} :
    iprop(Env m K ∗ owing (F := F) c 16 16 16 ∗ Half m c h bw s g d w k)
      ⊢ iprop((owing (F := F) c 16 16 16 ∗ Half m c h bw s g d w (k + 1) -∗ WP c p Q)
        -∗ WP c (dite cond (fun hh => Prog.lift (.waitDma2 (sem hh) (src hh) (dst hh) (hs hh) (hd hh)) >>= fun _ => p) (fun _ => p)) Q) := by
  subst hq
  have hk : q.val < 16 := q.isLt
  unfold Half RcvP
  rw [seg_pop (others c fun p => (cred (tallyAt (rcvC c h p) () Nst) : sProp 𝕄)) q.val 16 hk hk,
    seg_push (others c fun p => slotP c p h (ga m)) 0 q.val hk (Nat.zero_le _), seg_pop (fun p : Dev nD => pos (F := F) c (.dma (rcvS h p)) 0) q.val 16 hk hk,
    seg_push (fun p : Dev nD => pos (F := F) c (.dma (rcvS h p)) (fin1 c p)) 0 q.val hk (Nat.zero_le _)]
  by_cases hh : cond
  · have hne := hc.mp hh
    rw [dif_pos hh, hsem hh]
    simp only [Prog.lift, Prog.bind_op, Prog.bind_ret]
    rw [others_ne _ _ _ hne, others_ne _ _ _ hne, show fin1 c ⟨q.val, hk⟩ = 1 from if_neg (Ne.symm hne)]
    unfold owing pos
    iintro ⟨#He, ⟨%W, Ho⟩, Hrow, Hown, Hsnd, ⟨Hc, Hcs⟩, Hg, ⟨Hat, Hp0⟩, Hp1⟩ Hk
    iapply (Rounds.wp_wait_rest_token 𝒱₀ ER (Rd m) (c : Thread nD τ) none (κ := K (c, .dma (rcvS h q)))
        (wpE_waitDma2_eq 𝒱₀ (c : Thread nD τ) none Set.univ) (Set.mem_univ _) () (O := oAll c 16 16 16) (W := W) (R := 0) (m := 0) (T := ∅)
        (by rw [expect_one m c _ q (duty_rcv c h q hne), amnt_rcv, hN, Nat.zero_add])) $$ [Hc Ho Hat]
    · isplitr; · iapply (env_cell m K c (.dma (rcvS h q))); iexact He
      isplitl [Hc]; · rw [hN]; iexact Hc
      isplitl [Ho]; · iexact Ho
      isplitr; · iapply (env_end m K c (.dma (rcvS h q))); iexact He
      iexact Hat
    rw [rest_one m c _ q (duty_rcv c h q hne), paid_rcv]
    iintro ⟨Ho, Hat, -, Hpay⟩
    iapply Hk
    isplitl [Ho]; · iexists _; iexact Ho
    isplitl [Hrow]; · iexact Hrow
    isplitl [Hown]; · iexact Hown
    isplitl [Hsnd]; · iexact Hsnd
    isplitl [Hcs]; · iexact Hcs
    isplitl [Hpay Hg]; · isplitl [Hpay]; · unfold rcvPay; iexact Hpay
                         iexact Hg
    isplitl [Hp0]; · iexact Hp0
    isplitl [Hat] <;> iassumption
  · have he : c = q := by by_contra hne; exact hh (hc.mpr hne)
    rw [dif_neg hh]
    clear hsem hc hN
    subst he
    rw [others_self, others_self, show fin1 c ⟨c.val, hk⟩ = 0 from if_pos rfl]
    iintro ⟨-, Ho, Hrow, Hown, Hsnd, ⟨-, Hcs⟩, Hg, ⟨Hat, Hp0⟩, Hp1⟩ Hk
    iapply Hk
    isplitl [Ho]; · iexact Ho
    isplitl [Hrow]; · iexact Hrow
    isplitl [Hown]; · iexact Hown
    isplitl [Hsnd]; · iexact Hsnd
    isplitl [Hcs]; · iexact Hcs
    isplitl [Hg]; · isplitl []; · iempintro
                    iexact Hg
    isplitl [Hp0]; · iexact Hp0
    isplitl [Hat] <;> iassumption

/-- Awaiting that the send to device `q`, the `k`th, has left. -/
theorem core_left {k : ℕ} {q : Dev nD} (hq : q.val = k) (hd' : k < d) {cond : Prop} {_ : Decidable cond} (hc : cond ↔ c ≠ q)
    {sem : cond → DmaSem sig} (hsem : ∀ hh, sem hh = sndS h q) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} :
    iprop(Env m K ∗ owing (F := F) c 16 16 16 ∗ Half m c h bw 5 g d k r)
      ⊢ iprop((owing (F := F) c 16 16 16 ∗ Half m c h bw 5 g d (k + 1) r -∗ WP c p Q)
        -∗ WP c (dite cond (fun hh => Prog.lift (.waitDma2 (sem hh) (src hh) (dst hh) (hs hh) (hd hh)) >>= fun _ => p) (fun _ => p)) Q) := by
  subst hq
  have hk : q.val < 16 := q.isLt
  unfold Half SndP
  rw [rowP_high, rowP_high,
    seg_pop (fun p : Dev nD => (if p = c then halfP m c h (partSh p.val) else cred (tallyAt (sndC c h p) () Nst) : sProp 𝕄)) q.val d hk hd',
    seg_push (fun p : Dev nD => (halfP m c h (partSh p.val) : sProp 𝕄)) 0 q.val hk (Nat.zero_le _),
    seg_pop (fun p : Dev nD => pos (F := F) c (.dma (sndS h p)) 0) q.val 16 hk hk,
    seg_push (fun p : Dev nD => pos (F := F) c (.dma (sndS h p)) (fin1 c p)) 0 q.val hk (Nat.zero_le _)]
  by_cases hh : cond
  · have hne := hc.mp hh
    rw [dif_pos hh, hsem hh]
    simp only [Prog.lift, Prog.bind_op, Prog.bind_ret]
    rw [if_neg (Ne.symm hne), show fin1 c ⟨q.val, hk⟩ = 1 from if_neg (Ne.symm hne)]
    unfold owing pos
    iintro ⟨#He, ⟨%W, Ho⟩, ⟨Hr, Hps, ⟨Hc, Hcs⟩, Hg⟩, Hown, ⟨Hds, Hts, ⟨Hat, Hp0⟩, Hp1⟩, H⟩ Hk
    iapply (Rounds.wp_wait_rest_token 𝒱₀ ER (Rd m) (c : Thread nD τ) none (κ := K (c, .dma (sndS h q)))
        (wpE_waitDma2_eq 𝒱₀ (c : Thread nD τ) none Set.univ) (Set.mem_univ _) () (O := oAll c 16 16 16) (W := W) (R := 0) (m := 0) (T := ∅)
        (by rw [expect_one m c _ c (duty_snd c h q hne), amnt_snd, hN, Nat.zero_add])) $$ [Hc Ho Hat]
    · isplitr; · iapply (env_cell m K c (.dma (sndS h q))); iexact He
      isplitl [Hc]; · rw [hN]; iexact Hc
      isplitl [Ho]; · iexact Ho
      isplitr; · iapply (env_end m K c (.dma (sndS h q))); iexact He
      iexact Hat
    rw [rest_one m c _ c (duty_snd c h q hne), paid_snd]
    iintro ⟨Ho, Hat, -, Hpay⟩
    iapply Hk
    isplitl [Ho]; · iexists _; iexact Ho
    isplitl [Hr Hps Hcs Hg Hpay]
    · isplitl [Hr]; · iexact Hr
      isplitl [Hps]; · iexact Hps
      isplitl [Hcs]; · iexact Hcs
      isplitl [Hpay]; · unfold sndPay; iexact Hpay
      iexact Hg
    isplitl [Hown]; · iexact Hown
    isplitl [Hds Hts Hat Hp0 Hp1]
    · isplitl [Hds]; · iexact Hds
      isplitl [Hts]; · iexact Hts
      isplitl [Hp0]; · iexact Hp0
      isplitl [Hat] <;> iassumption
    iexact H
  · have he : c = q := by by_contra hne; exact hh (hc.mpr hne)
    rw [dif_neg hh]
    clear hsem hc hN
    subst he
    rw [if_pos rfl, show fin1 c ⟨c.val, hk⟩ = 0 from if_pos rfl]
    iintro ⟨-, Ho, ⟨Hr, Hps, ⟨Hc, Hcs⟩, Hg⟩, Hown, ⟨Hds, Hts, ⟨Hat, Hp0⟩, Hp1⟩, H⟩ Hk
    iapply Hk
    isplitl [Ho]; · iexact Ho
    isplitl [Hr Hps Hcs Hg Hc]
    · isplitl [Hr]; · iexact Hr
      isplitl [Hps]; · iexact Hps
      isplitl [Hcs]; · iexact Hcs
      isplitl [Hc] <;> iassumption
    isplitl [Hown]; · iexact Hown
    isplitl [Hds Hts Hat Hp0 Hp1]
    · isplitl [Hds]; · iexact Hds
      isplitl [Hts]; · iexact Hts
      isplitl [Hp0]; · iexact Hp0
      isplitl [Hat] <;> iassumption
    iexact H

/-- Reading the half of the table once every line is there. -/
theorem core_tab {hl} {Kt : Vec F S16x1x1024 .f32 → Prog (TpuEff nD τ sig (Elt F) Λ₀ .tc) α} {Q : α → sProp 𝕄} :
    iprop(Env m K ∗ owing (F := F) c sg a b ∗ Half m c h bw s 16 d w 16)
      ⊢ iprop((owing (F := F) c sg a b ∗ Half m c h bw s 16 d w 16 -∗ WP c (Kt (gh m h)) Q)
        -∗ WP c (Prog.lift (.load GM (tabR h).toLoadRect hl) >>= Kt) Q) := by
  simp only [Prog.lift, Prog.bind_op, Prog.bind_ret]
  unfold Half RcvP OwnP
  rw [if_neg (show ¬ 16 ≤ c.val from Nat.not_le.mpr c.isLt)]
  iintro ⟨-, Ho, Hrow, Hown, Hsnd, Hc, Hg, Hp⟩ Hk
  ihave Ht := (Entails.of_eq (tab_slots m c h)) $$ [Hown Hg]
  · isplitl [Hown] <;> iassumption
  iapply (wp_load_rect 𝒱₀ (c : Thread nD τ) none Set.univ (m := GM) (r := tabR h) (f := ga m) (View.set_slice_whole _ _).subset) $$ Ht
  iintro Ht
  rw [read_gm m h]
  iapply Hk
  ihave Ht := (Entails.of_eq (tab_slots m c h).symm) $$ Ht
  icases Ht with ⟨Hown, Hg⟩
  isplitl [Ho]; · iexact Ho
  isplitl [Hrow]; · iexact Hrow
  isplitl [Hown]; · iexact Hown
  isplitl [Hsnd]; · iexact Hsnd
  isplitl [Hc]; · iexact Hc
  isplitl [Hg] <;> iassumption

end Core

end Cert.Softmax

end
-- ==== Proof.OutSteps.lean ====
/-
# The rest of the steps

The barrier wait, the result's blocks and their copies out, and the steps of `HalfSteps` on a whole state.
-/
module

public import proofs.«01_k».proof.Proof.HalfSteps

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem ob_written (b : Fin 8) (f : Buf (Elt F) ((c : Thread nD τ).loc cc0_scratch1)) :
    (((c : Thread nD τ).loc cc0_scratch1) ↦[(rowR b).set]{fullShare} (OB.access (rowR b)).write (Elt F) f (outBlk m c b) Finset.univ : sProp 𝕄)
      ⊢ ((c : Thread nD τ).loc cc0_scratch1) ↦[(rowR b).set]{fullShare} out m c :=
  Entails.of_eq (pointsTo_congr fun i hi => write_holds (OB.view.slice (rowR b)) f (out m c) (outBlk m c b) (fun j => congrFun (read_ob m c b) j) i
    (by rw [View.set_slice_whole]; exact hi))
omit [FloatOps F] in
theorem obV_set (b : Fin 8) : (obV b).set = (rowR b).set := View.set_slice_whole _ _
omit [FloatOps F] in
theorem v1V_set (b : Fin 8) : (v1V b).set = (rowR b).set := View.set_slice_whole _ _
omit [FloatOps F] in
theorem ob_pts (b : Fin 8) (f) : (((c : Thread nD τ).loc cc0_scratch1) ↦[(rowR b).set]{fullShare} f : sProp 𝕄)
    = ((obV b).loc (c : Thread nD τ) ↦[(obV b).set]{fullShare} f) := by rw [obV_set]
omit [FloatOps F] in
theorem v1_pts (b : Fin 8) (f) : (((c : Thread nD τ).loc main_v1) ↦[(rowR b).set]{fullShare} f : sProp 𝕄)
    = ((v1V b).loc (c : Thread nD τ) ↦[(v1V b).set]{fullShare} f) := by rw [v1V_set]
/-- Every other device's payload on the barrier: lines for both halves. -/
theorem bar_lines : (bigSep (Finset.univ.erase c) (fun p => barPay (F := F) c p) : sProp 𝕄)
    = iprop(seg (others c fun p => anySlot (F := F) p c 0) 0 16 ∗ seg (others c fun p => anySlot (F := F) p c 1) 0 16) := by
  have he : ∀ P : Dev nD → sProp 𝕄, seg (others c P) 0 16 = bigSep (Finset.univ.erase c) P := fun P => by
    rw [seg_full _ 16 (Nat.le_refl _), bigSep_erase (Finset.mem_univ c) (Φ := others c P), others_self,
      bigSep_congr fun p hp => others_ne c P p (Ne.symm (Finset.ne_of_mem_erase hp))]
    exact BI.Entails.antisymm (emp_sep (PROP := sProp 𝕄)).1 (emp_sep (PROP := sProp 𝕄)).2
  rw [he, he]
  unfold barPay
  exact bigSep_sep _ _ _

section Steps
variable {sg bw ci wi ob co wo s0 g0 d0 w0 r0 s1 g1 d1 w1 r1 : ℕ}
variable {α : Type}

theorem st_bar {s : Sem sig} (hs : s = barS)
    {p : Prog (TpuEff nD τ sig (Elt F) Λ₀ .tc) α} {Q : α → sProp 𝕄} (hn : St m K c 16 1 ci wi ob co wo s0 g0 0 w0 r0 s1 g1 0 w1 r1 ⊢ WP c p Q) :
    St m K c 16 0 ci wi ob co wo s0 g0 0 w0 r0 s1 g1 0 w1 r1 ⊢ WP c (semWaitWord s 15#32 >>= fun _ => p) Q := by
  subst hs
  simp only [semWaitWord, Prog.bind_op, Prog.bind_ret]
  unfold St BarP owing Half SndP pos
  rw [if_pos rfl, if_pos rfl, if_pos rfl]
  iintro ⟨#He, ⟨%W, Ho⟩, Hs, ⟨Hc, Hat⟩, HI, HO, ⟨Hr0, Ho0, ⟨-, Hd0⟩, Hv0⟩, Hr1, Ho1, ⟨-, Hd1⟩, Hv1⟩
  iapply (Rounds.wp_wait_rest_token 𝒱₀ ER (Rd m) (c : Thread nD τ) none (κ := K (c, .reg barS))
      (wpE_semWait_eq 𝒱₀ (c : Thread nD τ) none Set.univ) (Set.mem_univ _) () (O := oAll c 16 0 0) (W := W) (R := 0) (m := 0) (T := ∅)
      (by rw [expect_bar]; decide)) $$ [Hc Ho Hat]
  · isplitr; · iapply (env_cell m K c (.reg barS)); iexact He
    isplitl [Hc]; · iexact Hc
    isplitl [Ho]; · iexact Ho
    isplitr; · iapply (env_bar m K c 0 0); iexact He
    iexact Hat
  rw [rest_bar m c, bar_lines c]
  iintro ⟨Ho, Hat, -, Hl0, Hl1⟩
  iapply hn
  unfold St BarP owing Half SndP pos
  rw [if_neg Nat.one_ne_zero, if_neg Nat.one_ne_zero, if_neg Nat.one_ne_zero]
  isplitr; · iexact He
  isplitl [Ho]; · iexists _; iexact Ho
  isplitl [Hs]; · iexact Hs
  isplitl [Hat]; · iexact Hat
  isplitl [HI]; · iexact HI
  isplitl [HO]; · iexact HO
  isplitl [Hr0 Ho0 Hd0 Hv0 Hl0]
  · isplitl [Hr0]; · iexact Hr0
    isplitl [Ho0]; · iexact Ho0
    isplitl [Hd0 Hl0]; · isplitl [Hl0] <;> iassumption
    iexact Hv0
  isplitl [Hr1]; · iexact Hr1
  isplitl [Ho1]; · iexact Ho1
  isplitl [Hd1 Hl1]; · isplitl [Hl1] <;> iassumption
  iexact Hv1

/-! ## The result -/

theorem st_ldob {k : ℕ} (hk : k < 8) {hl} {Kt : Vec F S256x2048 .bf16 → Prog (TpuEff nD τ sig (Elt F) Λ₀ .tc) α} {Q : α → sProp 𝕄}
    (hn : ∀ v, St m K c sg bw ci wi k co wo s0 g0 d0 w0 r0 s1 g1 d1 w1 r1 ⊢ WP c (Kt v) Q) :
    St m K c sg bw ci wi k co wo s0 g0 d0 w0 r0 s1 g1 d1 w1 r1 ⊢ WP c (Prog.lift (.load OB (rowR ⟨k, hk⟩).toLoadRect hl) >>= Kt) Q := by
  simp only [Prog.lift, Prog.bind_op, Prog.bind_ret]
  unfold St OutP
  rw [seg_pop (fun b : Fin 8 => iprop(∃ f, obP (F := F) c b f)) k 8 hk hk]
  unfold obP
  iintro ⟨#He, Ho, Hs, HB, HI, ⟨⟨⟨%f, Hx⟩, Hxs⟩, HO⟩, H⟩
  iapply (wp_load_rect 𝒱₀ (c : Thread nD τ) none Set.univ (m := OB) (r := rowR ⟨k, hk⟩) (f := f) (View.set_slice_whole _ _).subset) $$ Hx
  iintro Hx
  iapply (hn _)
  unfold St OutP
  rw [seg_pop (fun b : Fin 8 => iprop(∃ f, obP (F := F) c b f)) k 8 hk hk]
  unfold obP
  isplitr; · iexact He
  isplitl [Ho]; · iexact Ho
  isplitl [Hs]; · iexact Hs
  isplitl [HB]; · iexact HB
  isplitl [HI]; · iexact HI
  isplitr [H]
  · isplitl [Hx Hxs]
    · isplitl [Hx]; · iexists f; iexact Hx
      iexact Hxs
    iexact HO
  iexact H

theorem st_stob {k : ℕ} (hk : k < 8) (hco : co ≤ k) {v : FVec F S256x2048 .bf16} (hv : v = outBlk m c ⟨k, hk⟩) {hx hm}
    {p : Prog (TpuEff nD τ sig (Elt F) Λ₀ .tc) α} {Q : α → sProp 𝕄} (hn : St m K c sg bw ci wi (k + 1) co wo s0 g0 d0 w0 r0 s1 g1 d1 w1 r1 ⊢ WP c p Q) :
    St m K c sg bw ci wi k co wo s0 g0 d0 w0 r0 s1 g1 d1 w1 r1
      ⊢ WP c (Prog.lift (.store OB (rowR ⟨k, hk⟩) v Finset.univ hx hm) >>= fun _ => p) Q := by
  subst hv
  simp only [Prog.lift, Prog.bind_op, Prog.bind_ret]
  unfold St OutP
  rw [seg_pop (fun b : Fin 8 => iprop(∃ f, obP (F := F) c b f)) k 8 hk hk]
  unfold obP
  iintro ⟨#He, Ho, Hs, HB, HI, ⟨⟨⟨%f, Hx⟩, Hxs⟩, Hd, HO⟩, H⟩
  iapply (wp_store 𝒱₀ (c : Thread nD τ) none Set.univ (m := OB) (r := rowR ⟨k, hk⟩) (f := f) (View.set_slice_whole _ _).subset) $$ Hx
  iintro Hx
  iapply hn
  unfold St OutP
  rw [seg_push (fun b : Fin 8 => obP c b (out m c)) co k hk hco]
  unfold obP
  isplitr; · iexact He
  isplitl [Ho]; · iexact Ho
  isplitl [Hs]; · iexact Hs
  isplitl [HB]; · iexact HB
  isplitl [HI]; · iexact HI
  isplitr [H]
  · isplitl [Hxs]; · iexact Hxs
    isplitl [Hx Hd]
    · isplitl [Hx]; · iapply (ob_written m c ⟨k, hk⟩ f); iexact Hx
      iexact Hd
    iexact HO
  iexact H

theorem st_out {k : ℕ} (hk : k < 8) (hw : wo ≤ k) (hb : k < ob) {sem : DmaSem sig} (hsem : sem = outS ⟨k, hk⟩) {h1 h2 hs hd ht}
    {p : Prog (TpuEff nD τ sig (Elt F) Λ₀ .tc) α} {Q : α → sProp 𝕄} (hn : St m K c sg bw ci wi ob (k + 1) wo s0 g0 d0 w0 r0 s1 g1 d1 w1 r1 ⊢ WP c p Q) :
    St m K c sg bw ci wi ob k wo s0 g0 d0 w0 r0 s1 g1 d1 w1 r1
      ⊢ WP c (Prog.lift (.enqueueDma (OB.slice (rowR ⟨k, hk⟩) h1) (.here (V1.slice (rowR ⟨k, hk⟩) h2)) (.dma sem) hs hd ht) >>= fun _ => p) Q := by
  subst hsem
  simp only [Prog.lift, Prog.bind_op, Prog.bind_ret]
  unfold St OutP
  rw [seg_pop (outTok (F := F) c) k 8 hk hk, seg_pop (fun b : Fin 8 => obP c b (out m c)) k ob hk hb]
  unfold outTok resP
  iintro ⟨#He, Ho, Hs, HB, HI, ⟨Hu, ⟨Hx, Hxs⟩, ⟨⟨Htok, ⟨%f, Hv⟩⟩, Ht⟩, Hcr, HO⟩, H⟩
  iapply (Rounds.wp_copy_pointsTo 𝒱₀ ER (Rd m) (c : Thread nD τ) none (κ := K (c, .dma (outS ⟨k, hk⟩))) (r := 0) (d := c) (fd := f) (fs := out m c)
      (src := OB.slice (rowR ⟨k, hk⟩) h1) (dst := V1.slice (rowR ⟨k, hk⟩) h2) (q := fullShare)
      (by rw [duties_tc, duty_out]; exact Finset.mem_singleton_self _) () Nout rfl ((amount_eq m _ c).trans (amnt_out _))
      (by
        rw [payload_eq, paid_out]
        refine BIClass.sep_mono ?_ (Entails.of_eq (ob_pts c ⟨k, hk⟩ (out m c)).symm)
        show ((v1V ⟨k, hk⟩).loc (c : Thread nD τ) ↦[(v1V ⟨k, hk⟩).set]{fullShare} (v1V ⟨k, hk⟩).write (Elt F) f ((obV ⟨k, hk⟩).read (Elt F) (out m c)) Finset.univ : sProp 𝕄) ⊢ _
        rw [read_ob]
        exact res_landed m c ⟨k, hk⟩ f)) $$ [Htok Hx Hv]
  · isplitr; · iapply (env_cell m K c (.dma (outS ⟨k, hk⟩))); iexact He
    isplitl [Hx]; · unfold obP; iapply (Entails.of_eq (ob_pts c ⟨k, hk⟩ (out m c))); iexact Hx
    isplitl [Hv]; · iapply (Entails.of_eq (v1_pts c ⟨k, hk⟩ f)); iexact Hv
    isplitl [Htok]; · iexact Htok
    iapply (env_reached m K c (.dma (outS ⟨k, hk⟩))); iexact He
  iintro Hc
  iapply hn
  unfold St OutP
  rw [seg_push (fun b : Fin 8 => (cred (tallyAt (outC c b) () Nout) : sProp 𝕄)) wo k hk hw]
  isplitr; · iexact He
  isplitl [Ho]; · iexact Ho
  isplitl [Hs]; · iexact Hs
  isplitl [HB]; · iexact HB
  isplitl [HI]; · iexact HI
  isplitr [H]
  · isplitl [Hu]; · iexact Hu
    isplitl [Hxs]; · iexact Hxs
    isplitl [Ht]; · iexact Ht
    isplitl [Hc Hcr]; · isplitl [Hc] <;> iassumption
    iexact HO
  iexact H

theorem st_wo {k : ℕ} (hk : k < 8) (hw : k < co) {sem : DmaSem sig} (hsem : sem = outS ⟨k, hk⟩) {sp sp' : Space} {s s' : Shape} {e e' : EltTy}
    {src : Memref sig .tc sp' s' e'} {dst : Memref sig .tc sp s e} {hs hd} (hN : dst.view.dmaCredit = Nout)
    {p : Prog (TpuEff nD τ sig (Elt F) Λ₀ .tc) α} {Q : α → sProp 𝕄} (hn : St m K c sg bw ci wi ob co (k + 1) s0 g0 d0 w0 r0 s1 g1 d1 w1 r1 ⊢ WP c p Q) :
    St m K c sg bw ci wi ob co k s0 g0 d0 w0 r0 s1 g1 d1 w1 r1 ⊢ WP c (Prog.lift (.waitDma2 sem src dst hs hd) >>= fun _ => p) Q := by
  subst hsem
  simp only [Prog.lift, Prog.bind_op, Prog.bind_ret]
  unfold St OutP owing
  rw [seg_pop (fun b : Fin 8 => (cred (tallyAt (outC c b) () Nout) : sProp 𝕄)) k co hk hw, seg_pop (fun b : Fin 8 => pos (F := F) c (.dma (outS b)) 0) k 8 hk hk]
  iintro ⟨#He, ⟨%W, Ho⟩, Hs, HB, HI, ⟨Hu, Hb, Ht, ⟨Hc, Hcr⟩, HD, ⟨Hat, Hp0⟩, Hp1⟩, H⟩
  unfold pos
  iapply (Rounds.wp_wait_rest_token 𝒱₀ ER (Rd m) (c : Thread nD τ) none (κ := K (c, .dma (outS ⟨k, hk⟩)))
      (wpE_waitDma2_eq 𝒱₀ (c : Thread nD τ) none Set.univ) (Set.mem_univ _) () (O := oAll c sg d0 d1) (W := W) (R := 0) (m := 0) (T := ∅)
      (by rw [expect_one m c _ c (duty_out c _), amnt_out, hN, Nat.zero_add])) $$ [Hc Ho Hat]
  · isplitr; · iapply (env_cell m K c (.dma (outS ⟨k, hk⟩))); iexact He
    isplitl [Hc]; · rw [hN]; iexact Hc
    isplitl [Ho]; · iexact Ho
    isplitr; · iapply (env_low m K c (outS ⟨k, hk⟩) (by show 8 + k < 48; omega) sg d0 d1); iexact He
    iexact Hat
  rw [rest_one m c _ c (duty_out c _), paid_out]
  iintro ⟨Ho, Hat, -, Hpay⟩
  iapply hn
  unfold St OutP owing
  rw [seg_push (outPay m c) 0 k hk (Nat.zero_le _), seg_push (fun b : Fin 8 => pos (F := F) c (.dma (outS b)) 1) 0 k hk (Nat.zero_le _)]
  isplitr; · iexact He
  isplitl [Ho]; · iexists _; iexact Ho
  isplitl [Hs]; · iexact Hs
  isplitl [HB]; · iexact HB
  isplitl [HI]; · iexact HI
  isplitr [H]
  · isplitl [Hu]; · iexact Hu
    isplitl [Hb]; · iexact Hb
    isplitl [Ht]; · iexact Ht
    isplitl [Hcr]; · iexact Hcr
    isplitl [Hpay HD]; · isplitl [Hpay] <;> iassumption
    isplitl [Hp0]; · iexact Hp0
    isplitl [Hat]; · unfold pos; iexact Hat
    iexact Hp1
  iexact H

/-! ## The steps on a half, on a whole state -/

theorem st_conv0 {A : sProp 𝕄} (hn : St m K c sg bw ci wi ob co wo 5 g0 0 0 r0 s1 g1 d1 w1 r1 ⊢ A) :
    St m K c sg bw ci wi ob co wo 4 g0 0 0 r0 s1 g1 d1 w1 r1 ⊢ A := by
  refine lift0 m K c (s := 5) (g := g0) (d := 0) (w := 0) (r := r0) (A := A) (B := A) ?_ hn
  unfold Half
  iintro ⟨-, Ho, Hr, H⟩ Hk
  iapply Hk
  isplitl [Ho]; · iexact Ho
  isplitl [Hr]; · iapply (row_conv m c 0); iexact Hr
  iexact H
theorem st_conv1 {A : sProp 𝕄} (hn : St m K c sg bw ci wi ob co wo s0 g0 d0 w0 r0 5 g1 0 0 r1 ⊢ A) :
    St m K c sg bw ci wi ob co wo s0 g0 d0 w0 r0 4 g1 0 0 r1 ⊢ A := by
  refine lift1 m K c (s := 5) (g := g1) (d := 0) (w := 0) (r := r1) (A := A) (B := A) ?_ hn
  unfold Half
  iintro ⟨-, Ho, Hr, H⟩ Hk
  iapply Hk
  isplitl [Ho]; · iexact Ho
  isplitl [Hr]; · iapply (row_conv m c 1); iexact Hr
  iexact H

end Steps

end Cert.Softmax

end
-- ==== Proof.Moves.lean ====
/-
# The steps of one half, on the whole state

The numbers and semaphores that the program computes from the device's own number, and the steps of each half of the
statistics stated on the whole state of a run.
-/
module

public import proofs.«01_k».proof.Proof.OutSteps

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## The device's number, as a word -/

/-- The number of a device as the program computes it. -/
abbrev w2 (c : Dev nD) : BitVec 32 := Scalar.remsi (Scalar.divsi (Dev.word c) 1#32) 16#32

theorem w2_toNat (c : Dev nD) : (w2 c).toNat = c.val := by revert c; decide
theorem cond_ne_all (c q : Dev nD) : Scalar.cmpi .ne (Scalar.extui (Scalar.cmpi .ne (w2 c) (BitVec.ofNat 32 q.val)) : BitVec 32) 0#32 = 1#1 ↔ c ≠ q := by
  revert c q; decide
theorem cond_eq_all (c q : Dev nD) : Scalar.cmpi .ne (Scalar.extui (Scalar.cmpi .eq (w2 c) (BitVec.ofNat 32 q.val)) : BitVec 32) 0#32 = 1#1 ↔ c = q := by
  revert c q; decide
theorem cond_ne (k : ℕ) (hk : k < 16) : Scalar.cmpi .ne (Scalar.extui (Scalar.cmpi .ne (w2 c) (BitVec.ofNat 32 k)) : BitVec 32) 0#32 = 1#1 ↔ c ≠ ⟨k, hk⟩ :=
  cond_ne_all c ⟨k, hk⟩
theorem cond_eq (k : ℕ) (hk : k < 16) : Scalar.cmpi .ne (Scalar.extui (Scalar.cmpi .eq (w2 c) (BitVec.ofNat 32 k)) : BitVec 32) 0#32 = 1#1 ↔ c = ⟨k, hk⟩ :=
  cond_eq_all c ⟨k, hk⟩

/-- One after the other. -/
theorem wp_then {α β : Type} {p : Prog (TpuEff nD τ sig (Elt F) Λ₀ .tc) α} {k : α → Prog (TpuEff nD τ sig (Elt F) Λ₀ .tc) β} {Q : β → sProp 𝕄} {A : sProp 𝕄}
    (h : A ⊢ WP c p (fun a => WP c (k a) Q)) : A ⊢ WP c (p >>= k) Q := h.trans (Entails.of_eq (wp_bind ..).symm)

theorem wp_done {α : Type} {a : α} {Q : α → sProp 𝕄} {A : sProp 𝕄} (h : A ⊢ Q a) : A ⊢ WP c (Pure.pure a) Q := by
  have hp : Q a ⊢ iprop(|={Set.univ}[frame]=> Q a) := by
    iintro H
    imodintro
    iexact H
  exact h.trans (hp.trans (Entails.of_eq (wp_pure ..).symm))

theorem wp_dev {α : Type} {k : Dev nD → Prog (TpuEff nD τ sig (Elt F) Λ₀ .tc) α} {Q : α → sProp 𝕄} {A : sProp 𝕄} (h : A ⊢ WP c (k c) Q) :
    A ⊢ WP c (Prog.lift .deviceId >>= k) Q := by
  exact h.trans (Entails.of_eq (wp_deviceId (c := (c : Thread nD τ)) ..).symm)

/-! ## The words and semaphores the program computes -/

theorem rcv_sem_all : ∀ (h : Fin 2) (c : Dev nD) ,
    ((cc0_scratch7.slice (Rect.unit (s := S2x16) ![h.val, c.val] S1x1.size (by revert h c; decide))).squeeze S_ squeezes_S1x1_S_).sem = rcvS h c := by
  decide

/-- The semaphore that a row of statistics announces itself on: the sender's own line. -/
theorem rcv_sem (h : Fin 2) {off : Fin 2 → ℕ} (hoff : off = ![h.val, (w2 c).toNat]) (inb : ∀ a, off a + S1x1.size a ≤ S2x16.size a) :
    ((cc0_scratch7.slice (Rect.unit (s := S2x16) off S1x1.size inb)).squeeze S_ squeezes_S1x1_S_).sem = rcvS h c := by
  subst hoff
  have e : ![h.val, (w2 c).toNat] = ![h.val, c.val] := by rw [w2_toNat]
  revert inb
  rw [e]
  exact fun _ => rcv_sem_all h c

theorem slot_off (h : Fin 2) {off : Fin 3 → ℕ} (hoff : off = ![(w2 c).toNat, 0, 1024 * h.val]) : off = ![c.val, 0, 1024 * h.val] := by
  rw [hoff, w2_toNat]

/-! ## The steps of one half, on the whole state -/

section Halves
variable {sg bw ci wi ob co wo s0 g0 d0 w0 r0 s1 g1 d1 w1 r1 : ℕ} {α : Type}

theorem st_sto0 {k : ℕ} (hk : k < 4) {v : Vec F S1x256 .f32} (hv : v = stBlk m c (cb 0 ⟨k, hk⟩)) {hx hm}
    {p : Prog (TpuEff nD τ sig (Elt F) Λ₀ .tc) α} {Q : α → sProp 𝕄} (hn : St m K c sg bw ci wi ob co wo (k + 1) g0 d0 w0 r0 s1 g1 d1 w1 r1 ⊢ WP c p Q) :
    St m K c sg bw ci wi ob co wo k g0 d0 w0 r0 s1 g1 d1 w1 r1
      ⊢ WP c (Prog.lift (.store SP (colR (cb 0 ⟨k, hk⟩)) v Finset.univ hx hm) >>= fun _ => p) Q :=
  lift0 m K c (core_sto m K c 0 hk hv) hn
theorem st_ldcol0 {k : ℕ} (hk : k < 4) {hl} {Kt : Vec F S1x256 .f32 → Prog (TpuEff nD τ sig (Elt F) Λ₀ .tc) α} {Q : α → sProp 𝕄}
    (hn : ∀ v, St m K c sg bw ci wi ob co wo k g0 d0 w0 r0 s1 g1 d1 w1 r1 ⊢ WP c (Kt v) Q) :
    St m K c sg bw ci wi ob co wo k g0 d0 w0 r0 s1 g1 d1 w1 r1
      ⊢ WP c (Prog.lift (.load SP (colR (cb 0 ⟨k, hk⟩)).toLoadRect hl) >>= Kt) Q :=
  lift0 m K c (core_ldcol m K c 0 hk hn) (Entails.rfl)
theorem st_own0 {k : ℕ} (hk : k < 16) {cond : Prop} {_ : Decidable cond} (hc : cond ↔ c = ⟨k, hk⟩)
    {pay : Vec F S1x1024 .f32 → FVec F S1x1x1024 .f32} (hpay : pay = k0_pay5) {hl1 : cond → _} {hl2 : cond → _} {hx : cond → _} {hm : cond → _}
    {p : Prog (TpuEff nD τ sig (Elt F) Λ₀ .tc) α} {Q : α → sProp 𝕄} (hn : St m K c sg bw ci wi ob co wo 5 (k + 1) d0 w0 r0 s1 g1 d1 w1 r1 ⊢ WP c p Q) :
    St m K c sg bw ci wi ob co wo 5 k d0 w0 r0 s1 g1 d1 w1 r1
      ⊢ WP c (dite cond (fun hh => Prog.lift (.load SP (halfR 0).toLoadRect (hl1 hh)) >>= fun v =>
            Prog.lift (.load GM (slotR ⟨k, hk⟩ 0).toLoadRect (hl2 hh)) >>= fun _ =>
            Prog.lift (.store GM (slotR ⟨k, hk⟩ 0) (pay v) Finset.univ (hx hh) (hm hh)) >>= fun _ => p) (fun _ => p)) Q :=
  lift0 m K c (core_own m K c 0 rfl hc hpay) hn
theorem st_snd0 {k : ℕ} (hk : k < 16) {q : Dev nD} (hq : q = ⟨k, hk⟩) (hw : w0 ≤ k) {cond : Prop} {_ : Decidable cond} (hc : cond ↔ c ≠ q)
    {dv : cond → Dev nD} (hd : ∀ h, dv h = q) {sS : cond → DmaSem sig} (hsS : ∀ hh, sS hh = sndS 0 q) {sem : cond → DmaSem sig} (hsem : ∀ hh, sem hh = rcvS 0 c)
    {off : Fin 3 → ℕ} {inb : cond → ∀ a, off a + S1x1x1024.size a ≤ S16x1x2048.size a} (hoff : off = ![c.val, 0, 1024 * (0 : Fin 2).val]) {h1 : cond → _}
    {hsc : ∀ hh : cond, (slotM off (inb hh)).view.ref.isScScratch = false} {hs : ∀ hh : cond, (SP.slice (halfR 0) (h1 hh)).view.WordExact}
    {hdd : ∀ hh : cond, (slotM off (inb hh)).view.WordExact}
    {ht : ∀ hh : cond, DmaTarget.Typed .vmem (.dma (sem hh)) (.remote (Dev.tc (dv hh)) (slotM off (inb hh)) (.dma (sS hh)) (hsc hh))}
    {p : Prog (TpuEff nD τ sig (Elt F) Λ₀ .tc) α} {Q : α → sProp 𝕄} (hn : St m K c 16 1 ci wi ob co wo 5 g0 (k + 1) w0 r0 s1 g1 d1 w1 r1 ⊢ WP c p Q) :
    St m K c 16 1 ci wi ob co wo 5 g0 k w0 r0 s1 g1 d1 w1 r1
      ⊢ WP c (dite cond (fun hh => Prog.lift (.enqueueDma (SP.slice (halfR 0) (h1 hh))
            (.remote (Dev.tc (dv hh)) (slotM off (inb hh)) (.dma (sS hh)) (hsc hh))
            (.dma (sem hh)) (hs hh) (hdd hh) (ht hh)) >>= fun _ => p) (fun _ => p)) Q := by
  have hv : q.val = k := by rw [hq]
  have hO : c ≠ q → oAll c 16 k d1 = oAll c 16 (k + 1) d1 + tallyAt (rcvC q 0 c) () Nst := fun hne => by
    subst hq; exact oAll_snd0 c hk hne 16 _
  have hO' : c = q → oAll c 16 k d1 = oAll c 16 (k + 1) d1 := fun he => oAll_skip0 c (by rw [he, hv]) 16 _
  exact lift0 m K c (core_snd m K c 0 hv hw hO hO' hc hd hsS hsem hoff) hn
theorem st_rcv0 {k : ℕ} (hk : k < 16) {cond : Prop} {_ : Decidable cond} (hc : cond ↔ c ≠ ⟨k, hk⟩)
    {sem : cond → DmaSem sig} (hsem : ∀ hh, sem hh = rcvS 0 ⟨k, hk⟩) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} (hn : St m K c 16 bw ci wi ob co wo s0 g0 16 w0 (k + 1) s1 g1 16 w1 r1 ⊢ WP c p Q) :
    St m K c 16 bw ci wi ob co wo s0 g0 16 w0 k s1 g1 16 w1 r1
      ⊢ WP c (dite cond (fun hh => Prog.lift (.waitDma2 (sem hh) (src hh) (dst hh) (hs hh) (hd hh)) >>= fun _ => p) (fun _ => p)) Q :=
  lift0 m K c (core_rcv m K c 0 rfl hc hsem hN) hn
theorem st_left0 {k : ℕ} (hk : k < 16) {cond : Prop} {_ : Decidable cond} (hc : cond ↔ c ≠ ⟨k, hk⟩)
    {sem : cond → DmaSem sig} (hsem : ∀ hh, sem hh = sndS 0 ⟨k, hk⟩) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} (hn : St m K c 16 bw ci wi ob co wo 5 g0 16 (k + 1) r0 s1 g1 16 w1 r1 ⊢ WP c p Q) :
    St m K c 16 bw ci wi ob co wo 5 g0 16 k r0 s1 g1 16 w1 r1
      ⊢ WP c (dite cond (fun hh => Prog.lift (.waitDma2 (sem hh) (src hh) (dst hh) (hs hh) (hd hh)) >>= fun _ => p) (fun _ => p)) Q :=
  lift0 m K c (core_left m K c 0 rfl hk hc hsem hN) hn
theorem st_tab0 {hl} {Kt : Vec F S16x1x1024 .f32 → Prog (TpuEff nD τ sig (Elt F) Λ₀ .tc) α} {Q : α → sProp 𝕄}
    (hn : St m K c sg bw ci wi ob co wo s0 16 d0 w0 16 s1 g1 d1 w1 r1 ⊢ WP c (Kt (gh m 0)) Q) :
    St m K c sg bw ci wi ob co wo s0 16 d0 w0 16 s1 g1 d1 w1 r1
      ⊢ WP c (Prog.lift (.load GM (tabR 0).toLoadRect hl) >>= Kt) Q :=
  lift0 m K c (core_tab m K c 0) hn
theorem st_sto1 {k : ℕ} (hk : k < 4) {v : Vec F S1x256 .f32} (hv : v = stBlk m c (cb 1 ⟨k, hk⟩)) {hx hm}
    {p : Prog (TpuEff nD τ sig (Elt F) Λ₀ .tc) α} {Q : α → sProp 𝕄} (hn : St m K c sg bw ci wi ob co wo s0 g0 d0 w0 r0 (k + 1) g1 d1 w1 r1 ⊢ WP c p Q) :
    St m K c sg bw ci wi ob co wo s0 g0 d0 w0 r0 k g1 d1 w1 r1
      ⊢ WP c (Prog.lift (.store SP (colR (cb 1 ⟨k, hk⟩)) v Finset.univ hx hm) >>= fun _ => p) Q :=
  lift1 m K c (core_sto m K c 1 hk hv) hn
theorem st_ldcol1 {k : ℕ} (hk : k < 4) {hl} {Kt : Vec F S1x256 .f32 → Prog (TpuEff nD τ sig (Elt F) Λ₀ .tc) α} {Q : α → sProp 𝕄}
    (hn : ∀ v, St m K c sg bw ci wi ob co wo s0 g0 d0 w0 r0 k g1 d1 w1 r1 ⊢ WP c (Kt v) Q) :
    St m K c sg bw ci wi ob co wo s0 g0 d0 w0 r0 k g1 d1 w1 r1
      ⊢ WP c (Prog.lift (.load SP (colR (cb 1 ⟨k, hk⟩)).toLoadRect hl) >>= Kt) Q :=
  lift1 m K c (core_ldcol m K c 1 hk hn) (Entails.rfl)
theorem st_own1 {k : ℕ} (hk : k < 16) {cond : Prop} {_ : Decidable cond} (hc : cond ↔ c = ⟨k, hk⟩)
    {pay : Vec F S1x1024 .f32 → FVec F S1x1x1024 .f32} (hpay : pay = k0_pay5) {hl1 : cond → _} {hl2 : cond → _} {hx : cond → _} {hm : cond → _}
    {p : Prog (TpuEff nD τ sig (Elt F) Λ₀ .tc) α} {Q : α → sProp 𝕄} (hn : St m K c sg bw ci wi ob co wo s0 g0 d0 w0 r0 5 (k + 1) d1 w1 r1 ⊢ WP c p Q) :
    St m K c sg bw ci wi ob co wo s0 g0 d0 w0 r0 5 k d1 w1 r1
      ⊢ WP c (dite cond (fun hh => Prog.lift (.load SP (halfR 1).toLoadRect (hl1 hh)) >>= fun v =>
            Prog.lift (.load GM (slotR ⟨k, hk⟩ 1).toLoadRect (hl2 hh)) >>= fun _ =>
            Prog.lift (.store GM (slotR ⟨k, hk⟩ 1) (pay v) Finset.univ (hx hh) (hm hh)) >>= fun _ => p) (fun _ => p)) Q :=
  lift1 m K c (core_own m K c 1 rfl hc hpay) hn
theorem st_snd1 {k : ℕ} (hk : k < 16) {q : Dev nD} (hq : q = ⟨k, hk⟩) (hw : w1 ≤ k) {cond : Prop} {_ : Decidable cond} (hc : cond ↔ c ≠ q)
    {dv : cond → Dev nD} (hd : ∀ h, dv h = q) {sS : cond → DmaSem sig} (hsS : ∀ hh, sS hh = sndS 1 q) {sem : cond → DmaSem sig} (hsem : ∀ hh, sem hh = rcvS 1 c)
    {off : Fin 3 → ℕ} {inb : cond → ∀ a, off a + S1x1x1024.size a ≤ S16x1x2048.size a} (hoff : off = ![c.val, 0, 1024 * (1 : Fin 2).val]) {h1 : cond → _}
    {hsc : ∀ hh : cond, (slotM off (inb hh)).view.ref.isScScratch = false} {hs : ∀ hh : cond, (SP.slice (halfR 1) (h1 hh)).view.WordExact}
    {hdd : ∀ hh : cond, (slotM off (inb hh)).view.WordExact}
    {ht : ∀ hh : cond, DmaTarget.Typed .vmem (.dma (sem hh)) (.remote (Dev.tc (dv hh)) (slotM off (inb hh)) (.dma (sS hh)) (hsc hh))}
    {p : Prog (TpuEff nD τ sig (Elt F) Λ₀ .tc) α} {Q : α → sProp 𝕄} (hn : St m K c 16 1 ci wi ob co wo s0 g0 d0 w0 r0 5 g1 (k + 1) w1 r1 ⊢ WP c p Q) :
    St m K c 16 1 ci wi ob co wo s0 g0 d0 w0 r0 5 g1 k w1 r1
      ⊢ WP c (dite cond (fun hh => Prog.lift (.enqueueDma (SP.slice (halfR 1) (h1 hh))
            (.remote (Dev.tc (dv hh)) (slotM off (inb hh)) (.dma (sS hh)) (hsc hh))
            (.dma (sem hh)) (hs hh) (hdd hh) (ht hh)) >>= fun _ => p) (fun _ => p)) Q := by
  have hv : q.val = k := by rw [hq]
  have hO : c ≠ q → oAll c 16 d0 k = oAll c 16 d0 (k + 1) + tallyAt (rcvC q 1 c) () Nst := fun hne => by
    subst hq; exact oAll_snd1 c hk hne 16 _
  have hO' : c = q → oAll c 16 d0 k = oAll c 16 d0 (k + 1) := fun he => oAll_skip1 c (by rw [he, hv]) 16 _
  exact lift1 m K c (core_snd m K c 1 hv hw hO hO' hc hd hsS hsem hoff) hn
theorem st_rcv1 {k : ℕ} (hk : k < 16) {cond : Prop} {_ : Decidable cond} (hc : cond ↔ c ≠ ⟨k, hk⟩)
    {sem : cond → DmaSem sig} (hsem : ∀ hh, sem hh = rcvS 1 ⟨k, hk⟩) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} (hn : St m K c 16 bw ci wi ob co wo s0 g0 16 w0 r0 s1 g1 16 w1 (k + 1) ⊢ WP c p Q) :
    St m K c 16 bw ci wi ob co wo s0 g0 16 w0 r0 s1 g1 16 w1 k
      ⊢ WP c (dite cond (fun hh => Prog.lift (.waitDma2 (sem hh) (src hh) (dst hh) (hs hh) (hd hh)) >>= fun _ => p) (fun _ => p)) Q :=
  lift1 m K c (core_rcv m K c 1 rfl hc hsem hN) hn
theorem st_left1 {k : ℕ} (hk : k < 16) {cond : Prop} {_ : Decidable cond} (hc : cond ↔ c ≠ ⟨k, hk⟩)
    {sem : cond → DmaSem sig} (hsem : ∀ hh, sem hh = sndS 1 ⟨k, hk⟩) {sp sp' : Space} {z z' : Shape} {e e' : EltTy}
    {src : cond → Memref sig .tc sp' z' e'} {dst : cond → Memref sig .tc sp z e} {hs : ∀ hh, (src hh).view.WordExact} {hd : ∀ hh, (dst hh).view.WordExact}
    (hN : ∀ hh, (dst hh).view.dmaCredit = Nst)
    {p : Prog (TpuEff nD τ sig (Elt F) Λ₀ .tc) α} {Q : α → sProp 𝕄} (hn : St m K c 16 bw ci wi ob co wo s0 g0 16 w0 r0 5 g1 16 (k + 1) r1 ⊢ WP c p Q) :
    St m K c 16 bw ci wi ob co wo s0 g0 16 w0 r0 5 g1 16 k r1
      ⊢ WP c (dite cond (fun hh => Prog.lift (.waitDma2 (sem hh) (src hh) (dst hh) (hs hh) (hd hh)) >>= fun _ => p) (fun _ => p)) Q :=
  lift1 m K c (core_left m K c 1 rfl hk hc hsem hN) hn
theorem st_tab1 {hl} {Kt : Vec F S16x1x1024 .f32 → Prog (TpuEff nD τ sig (Elt F) Λ₀ .tc) α} {Q : α → sProp 𝕄}
    (hn : St m K c sg bw ci wi ob co wo s0 g0 d0 w0 r0 s1 16 d1 w1 16 ⊢ WP c (Kt (gh m 1)) Q) :
    St m K c sg bw ci wi ob co wo s0 g0 d0 w0 r0 s1 16 d1 w1 16
      ⊢ WP c (Prog.lift (.load GM (tabR 1).toLoadRect hl) >>= Kt) Q :=
  lift1 m K c (core_tab m K c 1) hn

end Halves

end Cert.Softmax

end
-- ==== Proof.Body.lean ====
/-
# One device's run

The program's parts in order, each from the state before it to the state after it, and the whole run made of them.
-/
module

public import proofs.«01_k».proof.Proof.Moves

@[expose] public section

set_option maxHeartbeats 4000000

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- A block of the result, with the half and the place of the scales given. -/
theorem outBlk_eq {b : Fin 8} {h : Fin 2} (hb : hOf b = h) {off : Fin 2 → ℕ} (hoff : off = ![256 * (b.val % 4), 0]) (hs : S1024x1.Slices off S256x1) :
    outBlk m c b = shapeCast S256x2048 (truncf .bf16 (mulf (exp (xblk m c b))
      (broadcastTo S256x2048 (extractStridedSlice S256x1 off (k0_pay42 (gh m h)) hs) broadcasts_S256x1_S256x2048)) bitsLt_bf16_f32)
      shapeCasts_S256x2048_S256x2048 := by
  subst hb hoff
  rfl
theorem pay_out0 : k0_pay43 (gh m 0) (xblk m c 0) = outBlk m c 0 := by rw [outBlk_eq m c (h := 0) rfl (off := ![0, 0]) rfl slices_S1024x1_o0_0_S256x1]; rfl
theorem pay_out1 : k0_pay46 (k0_pay44 (xblk m c 1)) (k0_pay45 (gh m 0)) = outBlk m c 1 := by rw [outBlk_eq m c (h := 0) rfl (off := ![256, 0]) rfl slices_S1024x1_o256_0_S256x1]; rfl
theorem pay_out2 : k0_pay47 (k0_pay42 (gh m 0)) (xblk m c 2) = outBlk m c 2 := by rw [outBlk_eq m c (h := 0) rfl (off := ![512, 0]) rfl slices_S1024x1_o512_0_S256x1]; rfl
theorem pay_out3 : k0_pay48 (k0_pay42 (gh m 0)) (xblk m c 3) = outBlk m c 3 := by rw [outBlk_eq m c (h := 0) rfl (off := ![768, 0]) rfl slices_S1024x1_o768_0_S256x1]; rfl
theorem pay_out4 : k0_pay52 (k0_pay50 (xblk m c 4)) (k0_pay51 (gh m 1)) = outBlk m c 4 := by rw [outBlk_eq m c (h := 1) rfl (off := ![0, 0]) rfl slices_S1024x1_o0_0_S256x1]; rfl
theorem pay_out5 : k0_pay53 (k0_pay49 (gh m 1)) (xblk m c 5) = outBlk m c 5 := by rw [outBlk_eq m c (h := 1) rfl (off := ![256, 0]) rfl slices_S1024x1_o256_0_S256x1]; rfl
theorem pay_out6 : k0_pay54 (k0_pay49 (gh m 1)) (xblk m c 6) = outBlk m c 6 := by rw [outBlk_eq m c (h := 1) rfl (off := ![512, 0]) rfl slices_S1024x1_o512_0_S256x1]; rfl
theorem pay_out7 : k0_pay55 (k0_pay49 (gh m 1)) (xblk m c 7) = outBlk m c 7 := by rw [outBlk_eq m c (h := 1) rfl (off := ![768, 0]) rfl slices_S1024x1_o768_0_S256x1]; rfl

/-- The first part: the device's number, and the signals to devices 0 to 7. -/
theorem part1 {Q} (hQ : St m K c 8 0 0 0 0 0 0 0 0 0 0 0 0 0 0 0 0 ⊢ Q ⟨c, w2 c, SemArray.scalar (sig.barrier 0 rfl)⟩) :
    St m K c 0 0 0 0 0 0 0 0 0 0 0 0 0 0 0 0 0 ⊢ WP c (k0_part1 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7) Q := by
  rw [k0_part1_eq_skeleton]; unfold k0_part1_skel
  refine wp_dev c ?_
  iterate 8 refine st_sig m K c (by decide) (cond_ne c _ (by decide)) (fun _ => rfl) ?_
  exact wp_done c hQ

/-- The signals to devices 8 to 15, and the first copy in. -/
theorem part2 {Q} (hQ : St m K c 16 0 1 0 0 0 0 0 0 0 0 0 0 0 0 0 0 ⊢ Q ⟨⟩) :
    St m K c 8 0 0 0 0 0 0 0 0 0 0 0 0 0 0 0 0 ⊢ WP c (k0_part2 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c) (SemArray.scalar (sig.barrier 0 rfl))) Q := by
  rw [k0_part2_eq_skeleton]; unfold k0_part2_skel
  iterate 8 refine st_sig m K c (by decide) (cond_ne c _ (by decide)) (fun _ => rfl) ?_
  refine st_in m K c (by decide) (by decide) rfl ?_
  exact wp_done c hQ

/-- Copies in. -/
theorem part3 {Q} (hQ : St m K c 16 0 7 0 0 0 0 0 0 0 0 0 0 0 0 0 0 ⊢ Q ⟨⟩) :
    St m K c 16 0 1 0 0 0 0 0 0 0 0 0 0 0 0 0 0 ⊢ WP c (k0_part3 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7) Q := by
  rw [k0_part3_eq_skeleton]; unfold k0_part3_skel
  iterate 6 refine st_in m K c (by decide) (by decide) rfl ?_
  exact wp_done c hQ

/-- The last copy in, and the statistics of the first two blocks. -/
theorem part4 {Q} (hQ : St m K c 16 0 8 2 0 0 0 2 0 0 0 0 0 0 0 0 0 ⊢ Q ⟨⟩) :
    St m K c 16 0 7 0 0 0 0 0 0 0 0 0 0 0 0 0 0 ⊢ WP c (k0_part4 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7) Q := by
  rw [k0_part4_eq_skeleton]; unfold k0_part4_skel
  refine st_in m K c (by decide) (by decide) rfl ?_
  refine st_wi m K c (by decide) (by decide) rfl rfl ?_
  refine st_ldx m K c 0 (by decide) (by decide) ?_
  refine st_ldcol0 m K c (by decide) (fun _ => ?_)
  refine st_sto0 m K c (by decide) rfl ?_
  refine st_wi m K c (by decide) (by decide) rfl rfl ?_
  refine st_ldx m K c 1 (by decide) (by decide) ?_
  refine st_ldcol0 m K c (by decide) (fun _ => ?_)
  refine st_sto0 m K c (by decide) rfl ?_
  exact wp_done c hQ

/-- Two more blocks, the wait for all devices, and the own line of the first half. -/
theorem part5 {Q} (hQ : St m K c 16 1 8 4 0 0 0 5 3 0 0 0 0 0 0 0 0 ⊢ Q ⟨⟩) :
    St m K c 16 0 8 2 0 0 0 2 0 0 0 0 0 0 0 0 0 ⊢ WP c (k0_part5 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c) (SemArray.scalar (sig.barrier 0 rfl))) Q := by
  rw [k0_part5_eq_skeleton]; unfold k0_part5_skel
  refine st_wi m K c (by decide) (by decide) rfl rfl ?_
  refine st_ldx m K c 2 (by decide) (by decide) ?_
  refine st_ldcol0 m K c (by decide) (fun _ => ?_)
  refine st_sto0 m K c (by decide) rfl ?_
  refine st_wi m K c (by decide) (by decide) rfl rfl ?_
  refine st_ldx m K c 3 (by decide) (by decide) ?_
  refine st_ldcol0 m K c (by decide) (fun _ => ?_)
  refine st_sto0 m K c (by decide) rfl ?_
  refine st_bar m K c rfl ?_
  refine st_conv0 m K c ?_
  iterate 3 refine st_own0 m K c (by decide) (cond_eq c _ (by decide)) rfl ?_
  exact wp_done c hQ

/-- The own line of the first half, continued. -/
theorem part6 {Q} (hQ : St m K c 16 1 8 4 0 0 0 5 13 0 0 0 0 0 0 0 0 ⊢ Q ⟨⟩) :
    St m K c 16 1 8 4 0 0 0 5 3 0 0 0 0 0 0 0 0 ⊢ WP c (k0_part6 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part6_eq_skeleton]; unfold k0_part6_skel
  iterate 10 refine st_own0 m K c (by decide) (cond_eq c _ (by decide)) rfl ?_
  exact wp_done c hQ

/-- The first half's rows to devices 0 to 6. -/
theorem part7 {Q} (hQ : St m K c 16 1 8 4 0 0 0 5 16 7 0 0 0 0 0 0 0 ⊢ Q ⟨⟩) :
    St m K c 16 1 8 4 0 0 0 5 13 0 0 0 0 0 0 0 0 ⊢ WP c (k0_part7 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c)) Q := by
  rw [k0_part7_eq_skeleton]; unfold k0_part7_skel
  iterate 3 refine st_own0 m K c (by decide) (cond_eq c _ (by decide)) rfl ?_
  iterate 7 refine st_snd0 m K c (by decide) rfl (by decide) (cond_ne c _ (by decide)) (fun _ => rfl) (fun _ => rfl) (fun _ => rcv_sem c 0 rfl _) (slot_off c 0 rfl) ?_
  exact wp_done c hQ

/-- The first half's rows to devices 7 to 15. -/
theorem part8 {Q} (hQ : St m K c 16 1 8 4 0 0 0 5 16 16 0 0 0 0 0 0 0 ⊢ Q ⟨⟩) :
    St m K c 16 1 8 4 0 0 0 5 16 7 0 0 0 0 0 0 0 ⊢ WP c (k0_part8 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c)) Q := by
  rw [k0_part8_eq_skeleton]; unfold k0_part8_skel
  iterate 9 refine st_snd0 m K c (by decide) rfl (by decide) (cond_ne c _ (by decide)) (fun _ => rfl) (fun _ => rfl) (fun _ => rcv_sem c 0 rfl _) (slot_off c 0 rfl) ?_
  exact wp_done c hQ

/-- The statistics of blocks 4 and 5, and block 6 read. -/
theorem part9 {Q} (hQ : St m K c 16 1 8 7 0 0 0 5 16 16 0 0 2 0 0 0 0 ⊢ Q (k0_pay23 (xblk m c 6))) :
    St m K c 16 1 8 4 0 0 0 5 16 16 0 0 0 0 0 0 0 ⊢ WP c (k0_part9 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7) Q := by
  rw [k0_part9_eq_skeleton]; unfold k0_part9_skel
  refine st_wi m K c (by decide) (by decide) rfl rfl ?_
  refine st_ldx m K c 4 (by decide) (by decide) ?_
  refine st_ldcol1 m K c (by decide) (fun _ => ?_)
  refine st_sto1 m K c (by decide) rfl ?_
  refine st_wi m K c (by decide) (by decide) rfl rfl ?_
  refine st_ldx m K c 5 (by decide) (by decide) ?_
  refine st_ldcol1 m K c (by decide) (fun _ => ?_)
  refine st_sto1 m K c (by decide) rfl ?_
  refine st_wi m K c (by decide) (by decide) rfl rfl ?_
  refine st_ldx m K c 6 (by decide) (by decide) ?_
  exact wp_done c hQ

/-- The statistics of blocks 6 and 7, and the own line of the second half. -/
theorem part10 {Q} (hQ : St m K c 16 1 8 8 0 0 0 5 16 16 0 0 5 5 0 0 0 ⊢ Q ⟨⟩) :
    St m K c 16 1 8 7 0 0 0 5 16 16 0 0 2 0 0 0 0 ⊢ WP c (k0_part10 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c) (k0_pay23 (xblk m c 6))) Q := by
  rw [k0_part10_eq_skeleton]; unfold k0_part10_skel
  refine st_ldcol1 m K c (by decide) (fun _ => ?_)
  refine st_sto1 m K c (by decide) rfl ?_
  refine st_wi m K c (by decide) (by decide) rfl rfl ?_
  refine st_ldx m K c 7 (by decide) (by decide) ?_
  refine st_ldcol1 m K c (by decide) (fun _ => ?_)
  refine st_sto1 m K c (by decide) rfl ?_
  refine st_conv1 m K c ?_
  iterate 5 refine st_own1 m K c (by decide) (cond_eq c _ (by decide)) rfl ?_
  exact wp_done c hQ

/-- The own line of the second half, continued. -/
theorem part11 {Q} (hQ : St m K c 16 1 8 8 0 0 0 5 16 16 0 0 5 15 0 0 0 ⊢ Q ⟨⟩) :
    St m K c 16 1 8 8 0 0 0 5 16 16 0 0 5 5 0 0 0 ⊢ WP c (k0_part11 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part11_eq_skeleton]; unfold k0_part11_skel
  iterate 10 refine st_own1 m K c (by decide) (cond_eq c _ (by decide)) rfl ?_
  exact wp_done c hQ

/-- The second half's rows to devices 0 to 8. -/
theorem part12 {Q} (hQ : St m K c 16 1 8 8 0 0 0 5 16 16 0 0 5 16 9 0 0 ⊢ Q ⟨⟩) :
    St m K c 16 1 8 8 0 0 0 5 16 16 0 0 5 15 0 0 0 ⊢ WP c (k0_part12 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c)) Q := by
  rw [k0_part12_eq_skeleton]; unfold k0_part12_skel
  refine st_own1 m K c (by decide) (cond_eq c _ (by decide)) rfl ?_
  iterate 9 refine st_snd1 m K c (by decide) rfl (by decide) (cond_ne c _ (by decide)) (fun _ => rfl) (fun _ => rfl) (fun _ => rcv_sem c 1 rfl _) (slot_off c 1 rfl) ?_
  exact wp_done c hQ

/-- The second half's rows to devices 9 to 15, and the first half's rows received. -/
theorem part13 {Q} (hQ : St m K c 16 1 8 8 0 0 0 5 16 16 0 3 5 16 16 0 0 ⊢ Q ⟨⟩) :
    St m K c 16 1 8 8 0 0 0 5 16 16 0 0 5 16 9 0 0 ⊢ WP c (k0_part13 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c)) Q := by
  rw [k0_part13_eq_skeleton]; unfold k0_part13_skel
  iterate 7 refine st_snd1 m K c (by decide) rfl (by decide) (cond_ne c _ (by decide)) (fun _ => rfl) (fun _ => rfl) (fun _ => rcv_sem c 1 rfl _) (slot_off c 1 rfl) ?_
  iterate 3 refine st_rcv0 m K c (by decide) (cond_ne c _ (by decide)) (fun _ => rfl) (fun _ => rfl) ?_
  exact wp_done c hQ

/-- The first half's rows received, continued. -/
theorem part14 {Q} (hQ : St m K c 16 1 8 8 0 0 0 5 16 16 0 13 5 16 16 0 0 ⊢ Q ⟨⟩) :
    St m K c 16 1 8 8 0 0 0 5 16 16 0 3 5 16 16 0 0 ⊢ WP c (k0_part14 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part14_eq_skeleton]; unfold k0_part14_skel
  iterate 10 refine st_rcv0 m K c (by decide) (cond_ne c _ (by decide)) (fun _ => rfl) (fun _ => rfl) ?_
  exact wp_done c hQ

/-- The first half's table is full: its scales, and the result's first block. -/
theorem part15 {Q} (hQ : St m K c 16 1 8 8 1 1 0 5 16 16 0 16 5 16 16 0 0 ⊢ Q ⟨k0_pay42 (gh m 0), k0_pay44 (xblk m c 1), k0_pay45 (gh m 0)⟩) :
    St m K c 16 1 8 8 0 0 0 5 16 16 0 13 5 16 16 0 0 ⊢ WP c (k0_part15 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part15_eq_skeleton]; unfold k0_part15_skel
  iterate 3 refine st_rcv0 m K c (by decide) (cond_ne c _ (by decide)) (fun _ => rfl) (fun _ => rfl) ?_
  refine st_tab0 m K c ?_
  refine st_ldx m K c 0 (by decide) (by decide) ?_
  refine st_ldob m K c (by decide) (fun _ => ?_)
  refine st_stob m K c (by decide) (by decide) (pay_out0 m c) ?_
  refine st_out m K c (by decide) (by decide) (by decide) rfl ?_
  refine st_ldx m K c 1 (by decide) (by decide) ?_
  exact wp_done c hQ

/-- The result's blocks 1 to 3. -/
theorem part16 {Q} (hQ : St m K c 16 1 8 8 4 3 0 5 16 16 0 16 5 16 16 0 0 ⊢ Q ⟨⟩) :
    St m K c 16 1 8 8 1 1 0 5 16 16 0 16 5 16 16 0 0 ⊢ WP c (k0_part16 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (k0_pay42 (gh m 0)) (k0_pay44 (xblk m c 1)) (k0_pay45 (gh m 0))) Q := by
  rw [k0_part16_eq_skeleton]; unfold k0_part16_skel
  refine st_ldob m K c (by decide) (fun _ => ?_)
  refine st_stob m K c (by decide) (by decide) (pay_out1 m c) ?_
  refine st_out m K c (by decide) (by decide) (by decide) rfl ?_
  refine st_ldx m K c 2 (by decide) (by decide) ?_
  refine st_ldob m K c (by decide) (fun _ => ?_)
  refine st_stob m K c (by decide) (by decide) (pay_out2 m c) ?_
  refine st_out m K c (by decide) (by decide) (by decide) rfl ?_
  refine st_ldx m K c 3 (by decide) (by decide) ?_
  refine st_ldob m K c (by decide) (fun _ => ?_)
  refine st_stob m K c (by decide) (by decide) (pay_out3 m c) ?_
  exact wp_done c hQ

/-- Block 3 copied out, and the second half's rows received. -/
theorem part17 {Q} (hQ : St m K c 16 1 8 8 4 4 0 5 16 16 0 16 5 16 16 0 9 ⊢ Q ⟨⟩) :
    St m K c 16 1 8 8 4 3 0 5 16 16 0 16 5 16 16 0 0 ⊢ WP c (k0_part17 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part17_eq_skeleton]; unfold k0_part17_skel
  refine st_out m K c (by decide) (by decide) (by decide) rfl ?_
  iterate 9 refine st_rcv1 m K c (by decide) (cond_ne c _ (by decide)) (fun _ => rfl) (fun _ => rfl) ?_
  exact wp_done c hQ

/-- The second half's table is full: its scales. -/
theorem part18 {Q} (hQ : St m K c 16 1 8 8 4 4 0 5 16 16 0 16 5 16 16 0 16 ⊢ Q ⟨k0_pay49 (gh m 1), k0_pay50 (xblk m c 4), k0_pay51 (gh m 1)⟩) :
    St m K c 16 1 8 8 4 4 0 5 16 16 0 16 5 16 16 0 9 ⊢ WP c (k0_part18 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (w2 c)) Q := by
  rw [k0_part18_eq_skeleton]; unfold k0_part18_skel
  iterate 7 refine st_rcv1 m K c (by decide) (cond_ne c _ (by decide)) (fun _ => rfl) (fun _ => rfl) ?_
  refine st_tab1 m K c ?_
  refine st_ldx m K c 4 (by decide) (by decide) ?_
  exact wp_done c hQ

/-- The result's blocks 4 to 6. -/
theorem part19 {Q} (hQ : St m K c 16 1 8 8 7 6 0 5 16 16 0 16 5 16 16 0 16 ⊢ Q ⟨⟩) :
    St m K c 16 1 8 8 4 4 0 5 16 16 0 16 5 16 16 0 16 ⊢ WP c (k0_part19 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (k0_pay49 (gh m 1)) (k0_pay50 (xblk m c 4)) (k0_pay51 (gh m 1))) Q := by
  rw [k0_part19_eq_skeleton]; unfold k0_part19_skel
  refine st_ldob m K c (by decide) (fun _ => ?_)
  refine st_stob m K c (by decide) (by decide) (pay_out4 m c) ?_
  refine st_out m K c (by decide) (by decide) (by decide) rfl ?_
  refine st_ldx m K c 5 (by decide) (by decide) ?_
  refine st_ldob m K c (by decide) (fun _ => ?_)
  refine st_stob m K c (by decide) (by decide) (pay_out5 m c) ?_
  refine st_out m K c (by decide) (by decide) (by decide) rfl ?_
  refine st_ldx m K c 6 (by decide) (by decide) ?_
  refine st_ldob m K c (by decide) (fun _ => ?_)
  refine st_stob m K c (by decide) (by decide) (pay_out6 m c) ?_
  exact wp_done c hQ

/-- The last block of the result, and the first copies out ended. -/
theorem part20 {Q} (hQ : St m K c 16 1 8 8 8 8 3 5 16 16 0 16 5 16 16 0 16 ⊢ Q ⟨⟩) :
    St m K c 16 1 8 8 7 6 0 5 16 16 0 16 5 16 16 0 16 ⊢ WP c (k0_part20 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 (k0_pay49 (gh m 1))) Q := by
  rw [k0_part20_eq_skeleton]; unfold k0_part20_skel
  refine st_out m K c (by decide) (by decide) (by decide) rfl ?_
  refine st_ldx m K c 7 (by decide) (by decide) ?_
  refine st_ldob m K c (by decide) (fun _ => ?_)
  refine st_stob m K c (by decide) (by decide) (pay_out7 m c) ?_
  refine st_out m K c (by decide) (by decide) (by decide) rfl ?_
  iterate 3 refine st_wo m K c (by decide) (by decide) rfl rfl ?_
  exact wp_done c hQ

/-- The other copies out ended, and the first sent row given back. -/
theorem part21 {Q} (hQ : ∀ v, St m K c 16 1 8 8 8 8 8 5 16 16 1 16 5 16 16 0 16 ⊢ Q v) :
    St m K c 16 1 8 8 8 8 3 5 16 16 0 16 5 16 16 0 16 ⊢ WP c (k0_part21 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c)) Q := by
  rw [k0_part21_eq_skeleton]; unfold k0_part21_skel
  iterate 5 refine st_wo m K c (by decide) (by decide) rfl rfl ?_
  refine st_left0 m K c (by decide) (cond_ne c _ (by decide)) (fun _ => rfl) (fun _ => rfl) ?_
  exact wp_done c (hQ _)

/-- Sent rows given back. -/
theorem part22 {u v : BitVec 32} {Q} (hQ : ∀ v, St m K c 16 1 8 8 8 8 8 5 16 16 11 16 5 16 16 0 16 ⊢ Q v) :
    St m K c 16 1 8 8 8 8 8 5 16 16 1 16 5 16 16 0 16 ⊢ WP c (k0_part22 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c) u v) Q := by
  rw [k0_part22_eq_skeleton]; unfold k0_part22_skel
  iterate 10 refine st_left0 m K c (by decide) (cond_ne c _ (by decide)) (fun _ => rfl) (fun _ => rfl) ?_
  exact wp_done c (hQ _)

/-- Sent rows given back. -/
theorem part23 {u v : BitVec 32} {Q} (hQ : ∀ v, St m K c 16 1 8 8 8 8 8 5 16 16 16 16 5 16 16 5 16 ⊢ Q v) :
    St m K c 16 1 8 8 8 8 8 5 16 16 11 16 5 16 16 0 16 ⊢ WP c (k0_part23 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c) u v) Q := by
  rw [k0_part23_eq_skeleton]; unfold k0_part23_skel
  iterate 5 refine st_left0 m K c (by decide) (cond_ne c _ (by decide)) (fun _ => rfl) (fun _ => rfl) ?_
  iterate 5 refine st_left1 m K c (by decide) (cond_ne c _ (by decide)) (fun _ => rfl) (fun _ => rfl) ?_
  exact wp_done c (hQ _)

/-- Sent rows given back. -/
theorem part24 {u v : BitVec 32} {Q} (hQ : ∀ v, St m K c 16 1 8 8 8 8 8 5 16 16 16 16 5 16 16 15 16 ⊢ Q v) :
    St m K c 16 1 8 8 8 8 8 5 16 16 16 16 5 16 16 5 16 ⊢ WP c (k0_part24 A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7 c (w2 c) u v) Q := by
  rw [k0_part24_eq_skeleton]; unfold k0_part24_skel
  iterate 10 refine st_left1 m K c (by decide) (cond_ne c _ (by decide)) (fun _ => rfl) (fun _ => rfl) ?_
  exact wp_done c (hQ _)

/-- A device's whole run, from nothing done to everything done. -/
theorem body {Q} (hQ : St m K c 16 1 8 8 8 8 8 5 16 16 16 16 5 16 16 16 16 ⊢ Q ⟨⟩) :
    St m K c 0 0 0 0 0 0 0 0 0 0 0 0 0 0 0 0 0 ⊢ WP c (cc0_body A0 (Memref.isWhole_whole _) V1 (Memref.isWhole_whole _) XF (Memref.isWhole_whole _) OB (Memref.isWhole_whole _) SP (Memref.isWhole_whole _) GM (Memref.isWhole_whole _) cc0_scratch4 cc0_scratch5 cc0_scratch6 cc0_scratch7) Q := by
  rw [cc0_body_eq_skeleton]; unfold cc0_body_skel
  refine wp_then c (part1 m K c ?_)
  refine wp_then c (part2 m K c ?_)
  refine wp_then c (part3 m K c ?_)
  refine wp_then c (part4 m K c ?_)
  refine wp_then c (part5 m K c ?_)
  refine wp_then c (part6 m K c ?_)
  refine wp_then c (part7 m K c ?_)
  refine wp_then c (part8 m K c ?_)
  refine wp_then c (part9 m K c ?_)
  refine wp_then c (part10 m K c ?_)
  refine wp_then c (part11 m K c ?_)
  refine wp_then c (part12 m K c ?_)
  refine wp_then c (part13 m K c ?_)
  refine wp_then c (part14 m K c ?_)
  refine wp_then c (part15 m K c ?_)
  refine wp_then c (part16 m K c ?_)
  refine wp_then c (part17 m K c ?_)
  refine wp_then c (part18 m K c ?_)
  refine wp_then c (part19 m K c ?_)
  refine wp_then c (part20 m K c ?_)
  refine wp_then c (part21 m K c fun _ => ?_)
  refine wp_then c (part22 m K c fun _ => ?_)
  refine wp_then c (part23 m K c fun _ => ?_)
  refine wp_then c (part24 m K c fun _ => ?_)
  refine st_left1 m K c (by decide) (cond_ne c _ (by decide)) (fun _ => rfl) (fun _ => rfl) ?_
  exact wp_done c hQ

end Cert.Softmax

end
-- ==== Proof.Ends.lean ====
/-
# Before and after a device's program

A device is handed whole buffers, its positions on its semaphores and the rights it pays with; `start_st` sorts these into
the first state. After the last state `end_st` puts the buffers together again and closes every semaphore of the device,
each at zero.
-/
module

public import proofs.«01_k».proof.Proof.OutSteps

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## All semaphores of a device -/

/-- The names of a device's semaphores: the barrier, the copies in and out by block, the sends and landings by half and device. -/
abbrev SemIx : Type := Unit ⊕ Fin 8 ⊕ Fin 8 ⊕ (Fin 2 × Dev nD) ⊕ (Fin 2 × Dev nD)

def semOf : SemIx → SemLoc sig
  | .inl _ => .reg barS
  | .inr (.inl b) => .dma (inS b)
  | .inr (.inr (.inl b)) => .dma (outS b)
  | .inr (.inr (.inr (.inl q))) => .dma (sndS q.1 q.2)
  | .inr (.inr (.inr (.inr q))) => .dma (rcvS q.1 q.2)

theorem semOf_surj : Function.Surjective semOf := by
  rintro (s | s)
  · exact ⟨.inl (), congrArg SemLoc.reg (Subsingleton.elim (α := Fin 1) _ _)⟩
  · have hs : s.val < 80 := s.isLt
    by_cases h1 : s.val < 8
    · exact ⟨.inr (.inl ⟨s.val, h1⟩), congrArg SemLoc.dma (Fin.ext rfl)⟩
    by_cases h2 : s.val < 16
    · exact ⟨.inr (.inr (.inl ⟨s.val - 8, by omega⟩)), congrArg SemLoc.dma (Fin.ext (show 8 + (s.val - 8) = s.val by omega))⟩
    by_cases h3 : s.val < 48
    · exact ⟨.inr (.inr (.inr (.inl (⟨(s.val - 16) / 16, by omega⟩, ⟨(s.val - 16) % 16, Nat.mod_lt _ (by decide)⟩)))),
        congrArg SemLoc.dma (Fin.ext (show 16 + 16 * ((s.val - 16) / 16) + (s.val - 16) % 16 = s.val by omega))⟩
    · exact ⟨.inr (.inr (.inr (.inr (⟨(s.val - 48) / 16, by omega⟩, ⟨(s.val - 48) % 16, Nat.mod_lt _ (by decide)⟩)))),
        congrArg SemLoc.dma (Fin.ext (show 48 + 16 * ((s.val - 48) / 16) + (s.val - 48) % 16 = s.val by omega))⟩

theorem semOf_bij : Function.Bijective semOf :=
  (Fintype.bijective_iff_surjective_and_card semOf).mpr ⟨semOf_surj, by decide⟩

omit [FloatOps F] in
theorem bigSep_two (Φ : Fin 2 → sProp 𝕄) : bigSep Finset.univ Φ = iprop(Φ 0 ∗ Φ 1) := bigSep_univ_eq_bigSepL [0, 1] (by decide) (by decide) Φ

omit [FloatOps F] in
/-- Something at every semaphore of a device, kind by kind. -/
theorem bigSep_sems (Φ : SemLoc sig → sProp 𝕄) : bigSep Finset.univ Φ
    = iprop(Φ (.reg barS) ∗ bigSep Finset.univ (fun b : Fin 8 => Φ (.dma (inS b))) ∗ bigSep Finset.univ (fun b : Fin 8 => Φ (.dma (outS b)))
      ∗ (bigSep Finset.univ fun h : Fin 2 => bigSep Finset.univ fun p : Dev nD => Φ (.dma (sndS h p)))
      ∗ (bigSep Finset.univ fun h : Fin 2 => bigSep Finset.univ fun p : Dev nD => Φ (.dma (rcvS h p)))) := by
  rw [bigSep_univ_equiv (Equiv.ofBijective semOf semOf_bij) Φ, bigSep_univ_sum, bigSep_univ_sum, bigSep_univ_sum, bigSep_univ_sum,
    bigSep_univ_prod, bigSep_univ_prod, show (Finset.univ : Finset Unit) = {()} from rfl, bigSep_singleton]
  rfl

omit [FloatOps F] in
/-- Of a family that is empty at every device but one, that one remains. -/
theorem bigSep_only (Φ : Dev nD → sProp 𝕄) (h : ∀ p, p ≠ c → Φ p = iprop(emp)) : bigSep Finset.univ Φ = Φ c := by
  rw [bigSep_erase (Finset.mem_univ c) (Φ := Φ), bigSep_congr (fun p hp => h p (Finset.ne_of_mem_erase hp)),
    show (bigSep (Finset.univ.erase c) fun _ : Dev nD => (iprop(emp) : sProp 𝕄)) = iprop(emp) from bigSep_emp_const _]
  exact BI.Entails.antisymm (sep_emp (PROP := sProp 𝕄)).1 (sep_emp (PROP := sProp 𝕄)).2

omit [FloatOps F] in
theorem seg_others (P : Dev nD → sProp 𝕄) : seg (others c P) 0 16 = bigSep Finset.univ (others c P) := seg_full _ 16 (Nat.le_refl _)

omit [FloatOps F] in
theorem seg_others_sep (P Q : Dev nD → sProp 𝕄) : seg (others c fun p => iprop(P p ∗ Q p)) 0 16 = iprop(seg (others c P) 0 16 ∗ seg (others c Q) 0 16) := by
  have e : (others c fun p => iprop(P p ∗ Q p)) = fun p => iprop(others c P p ∗ others c Q p) := by
    funext p
    by_cases h : p = c
    · subst h
      rw [others_self, others_self, others_self]
      exact (BI.Entails.antisymm (sep_emp (PROP := sProp 𝕄)).1 (sep_emp (PROP := sProp 𝕄)).2).symm
    · rw [others_ne c _ p (Ne.symm h), others_ne c _ p (Ne.symm h), others_ne c _ p (Ne.symm h)]
  rw [seg_others, seg_others, seg_others, e]
  exact bigSep_sep _ _ _

/-! ## The rights to pay -/

/-- The right of device `d` to pay into semaphore `s` of device `p`, if it has one. -/
def tok (p : Dev nD) (s : SemLoc sig) (d : Dev nD) : sProp 𝕄 := if d ∈ duty p s then dutyTok ER ((p : Thread nD τ), s) 0 d else iprop(emp)

omit [FloatOps F] in
theorem tok_has {p : Dev nD} {s : SemLoc sig} {d : Dev nD} (h : d ∈ duty p s) : (tok p s d : sProp 𝕄) = dutyTok ER ((p : Thread nD τ), s) 0 d := if_pos h
omit [FloatOps F] in
theorem tok_not {p : Dev nD} {s : SemLoc sig} {d : Dev nD} (h : d ∉ duty p s) : (tok p s d : sProp 𝕄) = iprop(emp) := if_neg h

omit [FloatOps F] in
theorem tok_bar : (bigSep Finset.univ fun p : Dev nD => (tok p (.reg barS) c : sProp 𝕄)) = seg (others c fun p => dutyTok ER (barC p) 0 c) 0 16 := by
  rw [seg_others]
  refine bigSep_congr fun p _ => ?_
  by_cases h : p = c
  · subst h; rw [others_self, tok_not (by rw [duty_bar]; exact Finset.notMem_erase _ _)]
  · rw [others_ne c _ p (Ne.symm h), tok_has (by rw [duty_bar]; exact Finset.mem_erase.mpr ⟨Ne.symm h, Finset.mem_univ _⟩)]

omit [FloatOps F] in
theorem tok_own (s : SemLoc sig) (hs : ∀ p, duty p s = {p}) :
    (bigSep Finset.univ fun p : Dev nD => (tok p s c : sProp 𝕄)) = dutyTok ER ((c : Thread nD τ), s) 0 c := by
  rw [bigSep_only c _ fun p hp => tok_not (by rw [hs, Finset.mem_singleton]; exact Ne.symm hp), tok_has (by rw [hs]; exact Finset.mem_singleton_self _)]

omit [FloatOps F] in
theorem tok_snd (h : Fin 2) :
    (bigSep Finset.univ fun q : Dev nD => bigSep Finset.univ fun p : Dev nD => (tok p (.dma (sndS h q)) c : sProp 𝕄))
      = seg (others c fun q => dutyTok ER (sndC c h q) 0 c) 0 16 := by
  rw [seg_others]
  refine bigSep_congr fun q _ => ?_
  rw [bigSep_only c _ fun p hp => tok_not (by
    by_cases e : p = q
    · subst e; rw [duty_snd_self]; exact Finset.notMem_empty _
    · rw [duty_snd p h q e, Finset.mem_singleton]; exact Ne.symm hp)]
  by_cases e : q = c
  · subst e; rw [others_self, tok_not (by rw [duty_snd_self]; exact Finset.notMem_empty _)]
  · rw [others_ne c _ q (Ne.symm e), tok_has (by rw [duty_snd c h q (Ne.symm e)]; exact Finset.mem_singleton_self _)]

omit [FloatOps F] in
theorem tok_rcv (h : Fin 2) :
    (bigSep Finset.univ fun q : Dev nD => bigSep Finset.univ fun p : Dev nD => (tok p (.dma (rcvS h q)) c : sProp 𝕄))
      = seg (others c fun p => dutyTok ER (rcvC p h c) 0 c) 0 16 := by
  rw [bigSep_only c _ fun q hq => (bigSep_congr fun p _ => tok_not (by
    by_cases e : p = q
    · subst e; rw [duty_rcv_self]; exact Finset.notMem_empty _
    · rw [duty_rcv p h q e, Finset.mem_singleton]; exact Ne.symm hq)).trans (bigSep_emp_const _), seg_others]
  refine bigSep_congr fun p _ => ?_
  by_cases e : p = c
  · subst e; rw [others_self, tok_not (by rw [duty_rcv_self]; exact Finset.notMem_empty _)]
  · rw [others_ne c _ p (Ne.symm e), tok_has (by rw [duty_rcv p h c e]; exact Finset.mem_singleton_self _)]

/-- What a device is dealt: its positions on its own semaphores, and the rights it pays with on everybody's. -/
def linear : sProp 𝕄 :=
  iprop((bigSep Finset.univ fun s : SemLoc sig => pos (F := F) c s 0) ∗ (bigSep Finset.univ fun s : SemLoc sig => bigSep Finset.univ fun p : Dev nD => tok p s c))

omit [FloatOps F] in
theorem linear_eq : (linear c : sProp 𝕄) =
    iprop((pos c (.reg barS) 0 ∗ bigSep Finset.univ (fun b : Fin 8 => pos c (.dma (inS b)) 0) ∗ bigSep Finset.univ (fun b : Fin 8 => pos c (.dma (outS b)) 0)
      ∗ ((bigSep Finset.univ fun p : Dev nD => pos c (.dma (sndS 0 p)) 0) ∗ (bigSep Finset.univ fun p : Dev nD => pos c (.dma (sndS 1 p)) 0))
      ∗ ((bigSep Finset.univ fun p : Dev nD => pos c (.dma (rcvS 0 p)) 0) ∗ (bigSep Finset.univ fun p : Dev nD => pos c (.dma (rcvS 1 p)) 0)))
      ∗ (seg (others c fun p => dutyTok ER (barC p) 0 c) 0 16 ∗ bigSep Finset.univ (fun b : Fin 8 => dutyTok ER (inC c b) 0 c)
        ∗ bigSep Finset.univ (fun b : Fin 8 => dutyTok ER (outC c b) 0 c)
        ∗ (seg (others c fun q => dutyTok ER (sndC c 0 q) 0 c) 0 16 ∗ seg (others c fun q => dutyTok ER (sndC c 1 q) 0 c) 0 16)
        ∗ (seg (others c fun q => dutyTok ER (rcvC q 0 c) 0 c) 0 16 ∗ seg (others c fun q => dutyTok ER (rcvC q 1 c) 0 c) 0 16))) := by
  unfold linear
  rw [bigSep_sems, bigSep_sems (fun s => bigSep Finset.univ fun p : Dev nD => (tok p s c : sProp 𝕄)), bigSep_two, bigSep_two, bigSep_two, bigSep_two,
    tok_bar, tok_snd, tok_snd, tok_rcv, tok_rcv, bigSep_congr (fun (b : Fin 8) _ => tok_own c (.dma (inS b)) fun p => duty_in p b),
    bigSep_congr (fun (b : Fin 8) _ => tok_own c (.dma (outS b)) fun p => duty_out p b)]

/-! ## The buffers -/

omit [FloatOps F] in
/-- A family held at some contents, from one piece of contents. -/
theorem bigSep_ex {n : ℕ} {A : Type} (Φ : Fin n → A → sProp 𝕄) (f : A) : (bigSep Finset.univ fun i => Φ i f) ⊢ bigSep Finset.univ fun i => iprop(∃ f, Φ i f) :=
  bigSep_mono fun i _ => show Φ i f ⊢ iprop(∃ f, Φ i f) by iintro H; iexists f; iexact H

theorem arg_rows : (((c : Thread nD τ).loc main_arg0) ↦{fullShare} xa m c : sProp 𝕄) = bigSep Finset.univ (argP m c) := by
  unfold argP
  exact (congrArg (fun S => (((c : Thread nD τ).loc main_arg0) ↦[S]{fullShare} xa m c : sProp 𝕄)) row_cover.symm).trans (pointsTo_biUnion _ _ row_disj)
omit [FloatOps F] in
theorem res_rows (f) : (((c : Thread nD τ).loc main_v1) ↦{fullShare} f : sProp 𝕄) = bigSep Finset.univ fun b => resP c b f := by
  unfold resP
  exact (congrArg (fun S => (((c : Thread nD τ).loc main_v1) ↦[S]{fullShare} f : sProp 𝕄)) row_cover.symm).trans (pointsTo_biUnion _ _ row_disj)
omit [FloatOps F] in
theorem xf_rows (f) : (((c : Thread nD τ).loc cc0_scratch0) ↦{fullShare} f : sProp 𝕄) = bigSep Finset.univ fun b => xfP c b f := by
  unfold xfP
  exact (congrArg (fun S => (((c : Thread nD τ).loc cc0_scratch0) ↦[S]{fullShare} f : sProp 𝕄)) row_cover.symm).trans (pointsTo_biUnion _ _ row_disj)
omit [FloatOps F] in
theorem ob_rows (f) : (((c : Thread nD τ).loc cc0_scratch1) ↦{fullShare} f : sProp 𝕄) = bigSep Finset.univ fun b => obP c b f := by
  unfold obP
  exact (congrArg (fun S => (((c : Thread nD τ).loc cc0_scratch1) ↦[S]{fullShare} f : sProp 𝕄)) row_cover.symm).trans (pointsTo_biUnion _ _ row_disj)
omit [FloatOps F] in
theorem sp_halves (f) : (((c : Thread nD τ).loc cc0_scratch2) ↦{fullShare} f : sProp 𝕄)
    = bigSep Finset.univ fun h : Fin 2 => ((c : Thread nD τ).loc cc0_scratch2) ↦[(halfR h).set]{fullShare} f :=
  (congrArg (fun S => (((c : Thread nD τ).loc cc0_scratch2) ↦[S]{fullShare} f : sProp 𝕄)) half_cover.symm).trans (pointsTo_biUnion _ _ half_disj)
omit [FloatOps F] in
theorem sp_cols (h : Fin 2) (f) : (((c : Thread nD τ).loc cc0_scratch2) ↦[(halfR h).set]{fullShare} f : sProp 𝕄)
    = bigSep Finset.univ fun b : Fin 4 => colP c (cb h b) f := by
  unfold colP
  rw [← col_cover h, pointsTo_biUnion _ _ (col_disj h)]
omit [FloatOps F] in
theorem gm_tabs (f) : (((c : Thread nD τ).loc cc0_scratch3) ↦{fullShare} f : sProp 𝕄)
    = bigSep Finset.univ fun h : Fin 2 => ((c : Thread nD τ).loc cc0_scratch3) ↦[(tabR h).set]{fullShare} f :=
  (congrArg (fun S => (((c : Thread nD τ).loc cc0_scratch3) ↦[S]{fullShare} f : sProp 𝕄)) tab_cover.symm).trans (pointsTo_biUnion _ _ tab_disj)
omit [FloatOps F] in
theorem tab_lines (h : Fin 2) (f) : (((c : Thread nD τ).loc cc0_scratch3) ↦[(tabR h).set]{fullShare} f : sProp 𝕄)
    = bigSep Finset.univ fun p : Dev nD => slotP c p h f := by
  unfold slotP
  rw [← slot_cover h, pointsTo_biUnion _ _ (slot_disj h)]

omit [FloatOps F] in
/-- A half of the row of sums, before it is computed. -/
theorem half_open (h : Fin 2) (f) : (((c : Thread nD τ).loc cc0_scratch2) ↦[(halfR h).set]{fullShare} f : sProp 𝕄)
    ⊢ bigSep Finset.univ fun b : Fin 4 => iprop(∃ f, colP (F := F) c (cb h b) f) := by
  rw [sp_cols c h f]; exact bigSep_ex (fun (b : Fin 4) f => colP (F := F) c (cb h b) f) f

omit [FloatOps F] in
/-- A half of the table: the device's own line, and the lines the others write. -/
theorem tab_open (h : Fin 2) (f) : (((c : Thread nD τ).loc cc0_scratch3) ↦[(tabR h).set]{fullShare} f : sProp 𝕄)
    ⊢ iprop(anySlot (F := F) c c h ∗ seg (others c fun p => anySlot (F := F) c p h) 0 16) := by
  rw [tab_lines c h f, others_univ c (fun p => anySlot (F := F) c p h)]
  exact bigSep_ex (fun (p : Dev nD) f => slotP (F := F) c p h f) f

/-! ## The first state -/

theorem inP_start : iprop(bigSep Finset.univ (fun b : Fin 8 => (dutyTok ER (inC c b) 0 c : sProp 𝕄)) ∗ bigSep Finset.univ (argP m c)
    ∗ bigSep Finset.univ (fun b : Fin 8 => iprop(∃ f, xfP (F := F) c b f)) ∗ bigSep Finset.univ (fun b : Fin 8 => pos (F := F) c (.dma (inS b)) 0)) ⊢ InP m c 0 0 := by
  unfold InP
  rw [seg_full (inTok m c) 8 (Nat.le_refl _), seg_nil _ 0 0 (Nat.le_refl _), seg_nil _ 0 0 (Nat.le_refl _), seg_nil _ 0 0 (Nat.le_refl _), seg_full _ 8 (Nat.le_refl _)]
  have e : bigSep Finset.univ (inTok m c) = iprop(bigSep Finset.univ (fun b : Fin 8 => (dutyTok ER (inC c b) 0 c : sProp 𝕄)) ∗ bigSep Finset.univ (argP m c)
      ∗ bigSep Finset.univ (fun b : Fin 8 => iprop(∃ f, xfP (F := F) c b f))) := by
    unfold inTok; rw [bigSep_sep', bigSep_sep']
  rw [e]
  iintro ⟨H1, H2, H3, H4⟩
  isplitl [H1 H2 H3]
  · isplitl [H1]; · iexact H1
    isplitl [H2] <;> iassumption
  isplitr; · iempintro
  isplitr; · iempintro
  isplitl [H4]; · iexact H4
  iempintro

theorem outP_start : iprop(bigSep Finset.univ (fun b : Fin 8 => (dutyTok ER (outC c b) 0 c : sProp 𝕄)) ∗ bigSep Finset.univ (fun b : Fin 8 => iprop(∃ f, resP (F := F) c b f))
    ∗ bigSep Finset.univ (fun b : Fin 8 => iprop(∃ f, obP (F := F) c b f)) ∗ bigSep Finset.univ (fun b : Fin 8 => pos (F := F) c (.dma (outS b)) 0)) ⊢ OutP m c 0 0 0 := by
  unfold OutP
  rw [seg_full (outTok (F := F) c) 8 (Nat.le_refl _), seg_full (fun b : Fin 8 => iprop(∃ f, obP (F := F) c b f)) 8 (Nat.le_refl _), seg_nil _ 0 0 (Nat.le_refl _),
    seg_nil _ 0 0 (Nat.le_refl _), seg_nil _ 0 0 (Nat.le_refl _), seg_nil _ 0 0 (Nat.le_refl _), seg_full _ 8 (Nat.le_refl _)]
  have e : bigSep Finset.univ (outTok (F := F) c) = iprop(bigSep Finset.univ (fun b : Fin 8 => (dutyTok ER (outC c b) 0 c : sProp 𝕄))
      ∗ bigSep Finset.univ (fun b : Fin 8 => iprop(∃ f, resP (F := F) c b f))) := by
    unfold outTok; rw [bigSep_sep']
  rw [e]
  iintro ⟨H1, H2, H3, H4⟩
  isplitl [H3]; · iexact H3
  isplitr; · iempintro
  isplitl [H1 H2]; · isplitl [H1] <;> iassumption
  isplitr; · iempintro
  isplitr; · iempintro
  isplitl [H4]; · iexact H4
  iempintro

theorem half_start (h : Fin 2) : iprop((bigSep Finset.univ fun b : Fin 4 => iprop(∃ f, colP (F := F) c (cb h b) f)) ∗ anySlot (F := F) c c h
    ∗ seg (others c fun q => dutyTok ER (sndC c h q) 0 c) 0 16 ∗ seg (others c fun q => dutyTok ER (rcvC q h c) 0 c) 0 16
    ∗ seg (others c fun p => cred (tallyAt (rcvC c h p) () Nst)) 0 16
    ∗ (bigSep Finset.univ fun p : Dev nD => pos (F := F) c (.dma (sndS h p)) 0) ∗ (bigSep Finset.univ fun p : Dev nD => pos (F := F) c (.dma (rcvS h p)) 0))
    ⊢ Half m c h 0 0 0 0 0 0 := by
  unfold Half SndP RcvP OwnP
  rw [rowP_low m c h (by decide), if_pos rfl, if_pos (Nat.zero_le _), seg_full _ 4 (Nat.le_refl _), seg_nil _ 0 0 (Nat.le_refl _), seg_nil _ 0 0 (Nat.le_refl _),
    seg_nil _ 0 0 (Nat.le_refl _), seg_nil _ 0 0 (Nat.le_refl _), seg_full (fun p : Dev nD => pos (F := F) c (.dma (sndS h p)) 0) 16 (Nat.le_refl _),
    seg_full (fun p : Dev nD => pos (F := F) c (.dma (rcvS h p)) 0) 16 (Nat.le_refl _),
    show sndTok (F := F) c h = fun p => iprop(dutyTok ER (sndC c h p) 0 c ∗ dutyTok ER (rcvC p h c) 0 c) from rfl, seg_others_sep]
  iintro ⟨H1, H2, H3, H4, H5, H6, H7⟩
  isplitl [H1]
  · isplitl [H1]; · iexact H1
    iempintro
  isplitl [H2]; · iexact H2
  isplitl [H3 H4 H6]
  · isplitr; · iempintro
    isplitl [H3 H4]; · isplitl [H3] <;> iassumption
    isplitl [H6]; · iexact H6
    iempintro
  isplitl [H5]; · iexact H5
  isplitr; · iempintro
  isplitl [H7]; · iexact H7
  iempintro

/-- The credits a device starts with: the others' barrier signals, and the landings. -/
def creds : sProp 𝕄 :=
  iprop(cred (tallyAt (barC c) () 15) ∗ seg (others c fun p => cred (tallyAt (rcvC c 0 p) () Nst)) 0 16 ∗ seg (others c fun p => cred (tallyAt (rcvC c 1 p) () Nst)) 0 16)

/-- Everything a device starts from, sorted. -/
theorem start_st (v f0 f1 f2 f3) :
    iprop(Env m K ∗ owing (F := F) c 0 0 0 ∗ linear c ∗ creds c ∗ (((c : Thread nD τ).loc main_arg0) ↦{fullShare} xa m c) ∗ (((c : Thread nD τ).loc main_v1) ↦{fullShare} v)
      ∗ (((c : Thread nD τ).loc cc0_scratch0) ↦{fullShare} f0) ∗ (((c : Thread nD τ).loc cc0_scratch1) ↦{fullShare} f1)
      ∗ (((c : Thread nD τ).loc cc0_scratch2) ↦{fullShare} f2) ∗ (((c : Thread nD τ).loc cc0_scratch3) ↦{fullShare} f3))
      ⊢ St m K c 0 0 0 0 0 0 0 0 0 0 0 0 0 0 0 0 0 := by
  unfold St
  rw [linear_eq, arg_rows, res_rows, xf_rows, ob_rows, sp_halves, gm_tabs, bigSep_two, bigSep_two,
    show sigTok (F := F) c = fun p => iprop(dutyTok ER (barC p) 0 c ∗ barPay (F := F) p c) from rfl, seg_others_sep,
    show (fun p => barPay (F := F) p c) = fun p => iprop(anySlot (F := F) c p 0 ∗ anySlot (F := F) c p 1) from rfl, seg_others_sep]
  unfold creds BarP
  rw [if_pos rfl]
  iintro ⟨#He, Ho, ⟨⟨PB, PI, PO, ⟨PS0, PS1⟩, ⟨PR0, PR1⟩⟩, TB, TI, TO, ⟨TS0, TS1⟩, TR0, TR1⟩, ⟨CB, C0, C1⟩, HA, HV, HX, HO, ⟨HS0, HS1⟩, HG0, HG1⟩
  ihave HV := (bigSep_ex (fun (b : Fin 8) f => resP (F := F) c b f) v) $$ HV
  ihave HX := (bigSep_ex (fun (b : Fin 8) f => xfP (F := F) c b f) f0) $$ HX
  ihave HO := (bigSep_ex (fun (b : Fin 8) f => obP (F := F) c b f) f1) $$ HO
  ihave HS0 := (half_open c 0 f2) $$ HS0
  ihave HS1 := (half_open c 1 f2) $$ HS1
  ihave HG0 := (tab_open c 0 f3) $$ HG0
  ihave HG1 := (tab_open c 1 f3) $$ HG1
  icases HG0 with ⟨HG0, HL0⟩
  icases HG1 with ⟨HG1, HL1⟩
  isplitr; · iexact He
  isplitl [Ho]; · iexact Ho
  isplitl [TB HL0 HL1]
  · isplitl [TB]; · iexact TB
    isplitl [HL0] <;> iassumption
  isplitl [CB PB]; · isplitl [CB] <;> iassumption
  isplitl [TI HA HX PI]
  · iapply (inP_start m c)
    isplitl [TI]; · iexact TI
    isplitl [HA]; · iexact HA
    isplitl [HX] <;> iassumption
  isplitl [TO HV HO PO]
  · iapply (outP_start m c)
    isplitl [TO]; · iexact TO
    isplitl [HV]; · iexact HV
    isplitl [HO] <;> iassumption
  isplitl [HS0 HG0 TS0 TR0 C0 PS0 PR0]
  · iapply (half_start m c 0)
    isplitl [HS0]; · iexact HS0
    isplitl [HG0]; · iexact HG0
    isplitl [TS0]; · iexact TS0
    isplitl [TR0]; · iexact TR0
    isplitl [C0]; · iexact C0
    isplitl [PS0] <;> iassumption
  · iapply (half_start m c 1)
    isplitl [HS1]; · iexact HS1
    isplitl [HG1]; · iexact HG1
    isplitl [TS1]; · iexact TS1
    isplitl [TR1]; · iexact TR1
    isplitl [C1]; · iexact C1
    isplitl [PS1] <;> iassumption

/-! ## The last state -/

theorem inP_end : InP m c 8 8 ⊢ iprop((((c : Thread nD τ).loc main_arg0) ↦{fullShare} xa m c) ∗ (((c : Thread nD τ).loc cc0_scratch0) ↦{fullShare} xa m c)
    ∗ bigSep Finset.univ (fun b : Fin 8 => pos (F := F) c (.dma (inS b)) 1)) := by
  unfold InP
  rw [seg_nil _ 8 8 (Nat.le_refl _), seg_nil _ 8 8 (Nat.le_refl _), seg_nil _ 8 8 (Nat.le_refl _), seg_full _ 8 (Nat.le_refl _), seg_full _ 8 (Nat.le_refl _),
    arg_rows, xf_rows]
  have e : bigSep Finset.univ (inPay m c) = iprop(bigSep Finset.univ (fun b : Fin 8 => xfP c b (xa m c)) ∗ bigSep Finset.univ (argP m c)) := by
    unfold inPay; rw [bigSep_sep']
  rw [e]
  iintro ⟨-, -, ⟨H1, H2⟩, -, H3⟩
  isplitl [H2]; · iexact H2
  isplitl [H1] <;> iassumption

theorem outP_end : OutP m c 8 8 8 ⊢ iprop((((c : Thread nD τ).loc main_v1) ↦{fullShare} out m c) ∗ (((c : Thread nD τ).loc cc0_scratch1) ↦{fullShare} out m c)
    ∗ bigSep Finset.univ (fun b : Fin 8 => pos (F := F) c (.dma (outS b)) 1)) := by
  unfold OutP
  rw [seg_nil _ 8 8 (Nat.le_refl _), seg_nil _ 8 8 (Nat.le_refl _), seg_nil _ 8 8 (Nat.le_refl _), seg_nil _ 8 8 (Nat.le_refl _), seg_nil _ 8 8 (Nat.le_refl _),
    seg_full _ 8 (Nat.le_refl _), seg_full _ 8 (Nat.le_refl _), res_rows, ob_rows]
  have e : bigSep Finset.univ (outPay m c) = iprop(bigSep Finset.univ (fun b : Fin 8 => resP c b (out m c)) ∗ bigSep Finset.univ (fun b : Fin 8 => obP c b (out m c))) := by
    unfold outPay; rw [bigSep_sep']
  rw [e]
  iintro ⟨-, -, -, -, ⟨H1, H2⟩, -, H3⟩
  isplitl [H1]; · iexact H1
  isplitl [H2] <;> iassumption

theorem half_end (h : Fin 2) : Half m c h 1 5 16 16 16 16 ⊢ iprop(halfP m c h fullShare ∗ (((c : Thread nD τ).loc cc0_scratch3) ↦[(tabR h).set]{fullShare} ga m)
    ∗ (bigSep Finset.univ fun p : Dev nD => pos (F := F) c (.dma (sndS h p)) (fin1 c p)) ∗ (bigSep Finset.univ fun p : Dev nD => pos (F := F) c (.dma (rcvS h p)) (fin1 c p))) := by
  unfold Half SndP RcvP OwnP
  rw [rowP_high, if_neg (by have : c.val < 16 := c.isLt; omega), ← tab_slots m c h, half_shares m c h 16 (Nat.le_refl _),
    seg_nil _ 16 16 (Nat.le_refl _), seg_nil _ 16 16 (Nat.le_refl _), seg_nil _ 16 16 (Nat.le_refl _), seg_nil _ 16 16 (Nat.le_refl _), seg_nil _ 16 16 (Nat.le_refl _),
    seg_full (fun p : Dev nD => pos (F := F) c (.dma (sndS h p)) (fin1 c p)) 16 (Nat.le_refl _),
    seg_full (fun p : Dev nD => pos (F := F) c (.dma (rcvS h p)) (fin1 c p)) 16 (Nat.le_refl _)]
  iintro ⟨⟨H1, -, -, H2⟩, H3, ⟨-, -, -, H4⟩, -, H5, -, H6⟩
  isplitl [H1 H2]; · isplitl [H1] <;> iassumption
  isplitl [H3 H5]; · isplitl [H3] <;> iassumption
  isplitl [H4] <;> iassumption

/-- A semaphore whose device is past every round of it is closed at zero. -/
theorem close_one (s : SemLoc sig) (r : ℕ) (hr : ∀ r', r ≤ r' → (Rd (F := F) m).duties ((c : Thread nD τ), s) r' = ∅) :
    iprop(Env m K ∗ pos c s r) ⊢ |={Set.univ}=> (semVal ((c : Thread nD τ), s) 0 : sProp 𝕄) := by
  refine BIBase.Entails.trans ?_ (cell_close ER (Rd m) (Set.mem_univ (K (c, s))) (fun h => h) (R := r) hr)
  unfold pos
  iintro ⟨#He, H⟩
  isplitr; · iapply (env_cell m K c s); iexact He
  iexact H

omit [FloatOps F] in
/-- Something each member of a family needs besides its own. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all {n : ℕ} (s : Fin n → SemLoc sig) (r : Fin n → ℕ) (hr : ∀ i r', r i ≤ r' → (Rd (F := F) m).duties ((c : Thread nD τ), s i) r' = ∅) :
    iprop(Env m K ∗ bigSep Finset.univ fun i => pos c (s i) (r i)) ⊢ |={Set.univ}=> bigSep Finset.univ fun i => (semVal ((c : Thread nD τ), s i) 0 : sProp 𝕄) :=
  (bigSep_using fun i _ => close_one m K c (s i) (r i) (hr i)).trans (bigSep_fupd _ _)

theorem fin1_duties (s : Dev nD → SemLoc sig) (hs : duty c (s c) = ∅) (p : Dev nD) :
    ∀ r', fin1 c p ≤ r' → (Rd (F := F) m).duties ((c : Thread nD τ), s p) r' = ∅ := by
  by_cases h : p = c
  · subst h; rw [show fin1 p p = 0 from if_pos rfl]; exact duties_none m p (s p) hs
  · rw [show fin1 c p = 1 from if_neg h]; exact duties_later m _

/-- What a device ends with: its block unchanged, the result, its scratch buffers, and every semaphore at zero. -/
theorem end_st : St m K c 16 1 8 8 8 8 8 5 16 16 16 16 5 16 16 16 16
    ⊢ |={Set.univ}=> iprop(owing (F := F) c 16 16 16 ∗ (((c : Thread nD τ).loc main_arg0) ↦{fullShare} xa m c) ∗ (((c : Thread nD τ).loc main_v1) ↦{fullShare} out m c)
      ∗ (((c : Thread nD τ).loc cc0_scratch0) ↦{fullShare} xa m c) ∗ (((c : Thread nD τ).loc cc0_scratch1) ↦{fullShare} out m c)
      ∗ (((c : Thread nD τ).loc cc0_scratch2) ↦{fullShare} st m c) ∗ (((c : Thread nD τ).loc cc0_scratch3) ↦{fullShare} ga m)
      ∗ bigSep Finset.univ fun s : SemLoc sig => semVal ((c : Thread nD τ), s) 0) := by
  unfold St BarP
  rw [if_neg Nat.one_ne_zero, bigSep_sems, sp_halves, gm_tabs, bigSep_two, bigSep_two, bigSep_two, bigSep_two]
  iintro ⟨#He, Ho, -, PB, HI, HO, H0, H1⟩
  ihave HI := (inP_end m c) $$ HI
  icases HI with ⟨HA, HX, PI⟩
  ihave HO := (outP_end m c) $$ HO
  icases HO with ⟨HV, HB, PO⟩
  ihave H0 := (half_end m c 0) $$ H0
  icases H0 with ⟨HS0, HG0, PS0, PR0⟩
  ihave H1 := (half_end m c 1) $$ H1
  icases H1 with ⟨HS1, HG1, PS1, PR1⟩
  imod (close_one m K c (.reg barS) 1 (duties_later m _)) $$ [PB] with ZB
  · isplitr; · iexact He
    iexact PB
  imod (close_all m K c (fun b : Fin 8 => .dma (inS b)) (fun _ => 1) (fun _ => duties_later m _)) $$ [PI] with ZI
  · isplitr; · iexact He
    iexact PI
  imod (close_all m K c (fun b : Fin 8 => .dma (outS b)) (fun _ => 1) (fun _ => duties_later m _)) $$ [PO] with ZO
  · isplitr; · iexact He
    iexact PO
  imod (close_all m K c (fun p : Dev nD => .dma (sndS 0 p)) (fin1 c) (fin1_duties m c (fun p => .dma (sndS 0 p)) (duty_snd_self c 0))) $$ [PS0] with ZS0
  · isplitr; · iexact He
    iexact PS0
  imod (close_all m K c (fun p : Dev nD => .dma (sndS 1 p)) (fin1 c) (fin1_duties m c (fun p => .dma (sndS 1 p)) (duty_snd_self c 1))) $$ [PS1] with ZS1
  · isplitr; · iexact He
    iexact PS1
  imod (close_all m K c (fun p : Dev nD => .dma (rcvS 0 p)) (fin1 c) (fin1_duties m c (fun p => .dma (rcvS 0 p)) (duty_rcv_self c 0))) $$ [PR0] with ZR0
  · isplitr; · iexact He
    iexact PR0
  imod (close_all m K c (fun p : Dev nD => .dma (rcvS 1 p)) (fin1 c) (fin1_duties m c (fun p => .dma (rcvS 1 p)) (duty_rcv_self c 1))) $$ [PR1] with ZR1
  · isplitr; · iexact He
    iexact PR1
  imodintro
  unfold halfP
  isplitl [Ho]; · iexact Ho
  isplitl [HA]; · iexact HA
  isplitl [HV]; · iexact HV
  isplitl [HX]; · iexact HX
  isplitl [HB]; · iexact HB
  isplitl [HS0 HS1]; · isplitl [HS0] <;> iassumption
  isplitl [HG0 HG1]; · isplitl [HG0] <;> iassumption
  isplitl [ZB]; · iexact ZB
  isplitl [ZI]; · iexact ZI
  isplitl [ZO]; · iexact ZO
  isplitl [ZS0 ZS1]; · isplitl [ZS0] <;> iassumption
  isplitl [ZR0] <;> iassumption

end Cert.Softmax

end
-- ==== Proof.Launch.lean ====
/-
# The run on all devices

The launch deals every device its positions and the rights it pays with, opens the invariants of all semaphores, and hands
out the credits for what the devices owe each other; every device then runs its program from there. `run_main` says what
every final memory holds: each device's block of the argument unchanged, its block of the result, and every semaphore at
zero.
-/
module

public import proofs.«01_k».proof.Proof.Body
public import proofs.«01_k».proof.Proof.Ends
public import proofs.«01_k».proof.Proof.Gen.KernelIdeal.Frame
public import Idealize.ShloMosaic.Lib.Pipeline.CollectiveSegs
public import Idealize.ShloMosaic.Lib.Quiescent

@[expose] public section

noncomputable section

namespace Cert.Softmax

open Cert.KernelIdeal Cert.KernelIdeal.Gen

open Idealize.ShloMosaic hiding ix1 ix2 ix3 eq_ix1 eq_ix2 eq_ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

abbrev s₀ : MemSt nD τ sig (Elt F) := ⟨m, fun _ => 0, ρ⟩

/-! ## What the launch element deals -/

/-- The semaphores, by device. -/
def cellAt (p : Dev nD × SemLoc sig) : GSem nD τ sig := ((p.1 : Thread nD τ), p.2)
theorem cellAt_inj : Function.Injective cellAt := by
  rintro ⟨d, s⟩ ⟨d', s'⟩ h
  exact Prod.ext (congrArg (fun g : GSem nD τ sig => g.1.1) h) (congrArg (fun g : GSem nD τ sig => g.2) h)
def allCells : Finset (GSem nD τ sig) := Finset.univ.map ⟨cellAt, cellAt_inj⟩

/-- The rights to pay, by device, semaphore and payer. -/
def tokAt (x : Dev nD × SemLoc sig × Dev nD) : GSem nD τ sig × ℕ × Dev nD := (((x.1 : Thread nD τ), x.2.1), 0, x.2.2)
theorem tokAt_inj : Function.Injective tokAt := by
  rintro ⟨d, s, e⟩ ⟨d', s', e'⟩ h
  exact Prod.ext (congrArg (fun g : GSem nD τ sig × ℕ × Dev nD => g.1.1.1) h)
    (Prod.ext (congrArg (fun g : GSem nD τ sig × ℕ × Dev nD => g.1.2) h) (congrArg (fun g : GSem nD τ sig × ℕ × Dev nD => g.2.2) h))
def allToks : Finset (GSem nD τ sig × ℕ × Dev nD) :=
  (Finset.univ.filter fun x : Dev nD × SemLoc sig × Dev nD => x.2.2 ∈ duty x.1 x.2.1).map ⟨tokAt, tokAt_inj⟩

def u₀ : UU := (initOf (Pipeline.cells cfgs cellOf_inj) (Pipeline.launchToks cfgs cellOf_inj), initOf allCells allToks)

/-- What the launch element deals device `c`: its semaphores' rounds, its positions, and the rights to pay into its semaphores. -/
def G : sProp 𝕄 :=
  iprop((bigSep Finset.univ fun s : SemLoc sig => iprop(roundState ER (Rd m) ((c : Thread nD τ), s) 0 ∗ reached ER ((c : Thread nD τ), s) 0))
    ∗ (bigSep Finset.univ fun s : SemLoc sig => pos c s 0)
    ∗ bigSep Finset.univ fun s : SemLoc sig => bigSep Finset.univ fun d : Dev nD => tok c s d)

/-- What each device starts from, once the invariants are open. -/
def G' : sProp 𝕄 := iprop(∃ K, bigSep Finset.univ (cellEnv m K) ∗ linear c)

theorem cells_eq (Φ : GSem nD τ sig → sProp 𝕄) :
    bigSep allCells Φ = bigSep Finset.univ fun c : Dev nD => bigSep Finset.univ fun s : SemLoc sig => Φ ((c : Thread nD τ), s) := by
  unfold allCells; rw [bigSep_map, bigSep_univ_prod]; rfl

theorem toks_eq : bigSep allToks (fun x => (dutyTok ER x.1 x.2.1 x.2.2 : sProp 𝕄))
    = bigSep Finset.univ fun c : Dev nD => bigSep Finset.univ fun s : SemLoc sig => bigSep Finset.univ fun d : Dev nD => tok c s d := by
  unfold allToks tok
  rw [bigSep_map, bigSep_filter, bigSep_univ_prod]
  refine bigSep_congr fun c _ => ?_
  rw [bigSep_univ_prod]
  rfl

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (cells_eq fun g => roundState ER (Rd m) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G pos
  simp only [bigSep_sep']
  isplitl [Hst Hr]; · isplitl [Hst] <;> iassumption
  isplitl [Hat] <;> iassumption

/-! ## The semaphores at the launch -/

/-- The copies' semaphores are the kernel's own; the barrier is not. -/
abbrev osem : Fin 80 → SemLoc sig := fun i => .dma i

theorem osem_inj : Function.Injective osem := fun _ _ h => SemLoc.dma.inj h
theorem ownSemFacts : Pipeline.OwnSemFacts cfg0.spec osem := ⟨by decide, osem_inj, fun _ w => w.elim0⟩

theorem unscopedSems0_eq : (unscopedSems0 c : sProp 𝕄) = semVal (barC c) 0 := by
  unfold unscopedSems0; rw [bigSep_eq_bigSepL_of_eq [SemLoc.reg barS] (by decide) (by decide)]; rfl

/-- All semaphores are the barrier and the kernel's own. -/
theorem sems_split (Φ : SemLoc sig → sProp 𝕄) : bigSep Finset.univ Φ = iprop(Φ (.reg barS) ∗ bigSep Finset.univ fun i : Fin 80 => Φ (osem i)) := by
  have e : (Finset.univ.erase (SemLoc.reg barS) : Finset (SemLoc sig)) = Finset.univ.map ⟨osem, osem_inj⟩ := by
    ext s
    simp only [Finset.mem_erase, Finset.mem_univ, and_true, Finset.mem_map, true_and, Function.Embedding.coeFn_mk]
    constructor
    · rcases s with s | s
      · exact fun h => absurd (congrArg SemLoc.reg (Subsingleton.elim (α := Fin 1) s barS)) h
      · exact fun _ => ⟨s, rfl⟩
    · rintro ⟨i, rfl⟩; exact fun h => by cases h
  rw [bigSep_univ_at _ (SemLoc.reg barS), e, bigSep_map]
  rfl

theorem sems0_eq : iprop(unscopedSems0 c ∗ Pipeline.ownSems0 (Ix := Unit) (Name := ℕ) (U := UU) (Lvl := ℕ) (Val := Elt F) (τ := τ) osem c)
    = (bigSep Finset.univ fun s : SemLoc sig => semVal ((c : Thread nD τ), s) 0 : sProp 𝕄) := by
  rw [sems_split, unscopedSems0_eq]; rfl

/-! ## The invariants opened, the rights dealt -/

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ ((c : Thread nD τ), s) ∗ reached ER ((c : Thread nD τ), s) 0))
          ∗ (bigSep Finset.univ fun s : SemLoc sig => pos c s 0)
          ∗ bigSep Finset.univ fun s : SemLoc sig => bigSep Finset.univ fun d : Dev nD => tok c s d) := by
  have alloc (s : SemLoc sig) : iprop(semVal ((c : Thread nD τ), s) 0 ∗ roundState ER (Rd m) ((c : Thread nD τ), s) 0 ∗ reached ER ((c : Thread nD τ), s) 0)
      ⊢ |={Set.univ}=> iprop(∃ κ : ℕ, cellInv ER (Rd m) κ ((c : Thread nD τ), s) ∗ reached ER ((c : Thread nD τ), s) 0) := by
    iintro ⟨Hv, Hst, #Hr⟩
    imod ((Rounds.body_intro ER (Rd m) ((c : Thread nD τ), s)).trans inv_alloc) $$ [Hv Hst] with HI
    · isplitl [Hv] <;> iassumption
    icases HI with ⟨%κ, HI⟩
    imodintro
    iexists κ
    isplitl [HI]; · iexact HI
    iexact Hr
  unfold G
  iintro ⟨Hos, Hus, Hst, Hat, Htok⟩
  ihave Hv := (Entails.of_eq (sems0_eq (F := F) c)) $$ [Hos Hus]
  · isplitl [Hus] <;> iassumption
  imod (show iprop((bigSep Finset.univ fun s : SemLoc sig => semVal ((c : Thread nD τ), s) 0)
        ∗ bigSep Finset.univ fun s : SemLoc sig => iprop(roundState ER (Rd m) ((c : Thread nD τ), s) 0 ∗ reached ER ((c : Thread nD τ), s) 0))
      ⊢ (|={Set.univ}=> bigSep Finset.univ fun s : SemLoc sig => iprop(∃ κ : ℕ, cellInv ER (Rd m) κ ((c : Thread nD τ), s) ∗ reached ER ((c : Thread nD τ), s) 0) : sProp 𝕄) from by
        rw [← bigSep_sep']
        exact (bigSep_mono fun s _ => alloc s).trans (bigSep_fupd _ _)) $$ [Hv Hst] with Hinv
  · isplitl [Hv] <;> iassumption
  imodintro
  isplitl [Hinv]; · iexact Hinv
  isplitl [Hat] <;> iassumption

theorem bigSep_swap {α β : Type} [DecidableEq α] (S : Finset α) (T : Finset β) (Φ : α → β → sProp 𝕄) :
    (bigSep S fun a => bigSep T fun b => Φ a b) = bigSep T fun b => bigSep S fun a => Φ a b := by
  induction S using Finset.induction_on with
  | empty =>
    rw [bigSep_empty]
    exact (show (bigSep T fun _ => (iprop(emp) : sProp 𝕄)) = iprop(emp) from bigSep_emp_const _).symm
  | insert a S ha ih =>
    rw [bigSep_insert ha, ih]
    exact (bigSep_sep' T (fun b => Φ a b) fun b => bigSep S fun a => Φ a b).symm.trans (bigSep_congr fun b _ => (bigSep_insert (Φ := fun a => Φ a b) ha).symm)

/-- The rights sorted by payer instead of by payee. -/
theorem toks_dealt : (bigSep Finset.univ fun c : Dev nD => bigSep Finset.univ fun s : SemLoc sig => bigSep Finset.univ fun d : Dev nD => (tok c s d : sProp 𝕄))
    = bigSep Finset.univ fun d : Dev nD => bigSep Finset.univ fun s : SemLoc sig => bigSep Finset.univ fun c : Dev nD => tok c s d := by
  rw [bigSep_congr fun (c : Dev nD) _ => bigSep_swap Finset.univ Finset.univ fun (s : SemLoc sig) (d : Dev nD) => (tok c s d : sProp 𝕄),
    bigSep_swap Finset.univ Finset.univ fun (c d : Dev nD) => bigSep Finset.univ fun s : SemLoc sig => (tok c s d : sProp 𝕄)]
  exact bigSep_congr fun d _ => bigSep_swap Finset.univ Finset.univ fun (c : Dev nD) (s : SemLoc sig) => (tok c s d : sProp 𝕄)

theorem give (K : Dev nD × SemLoc sig → ℕ) : iprop(bigSep Finset.univ (cellEnv m K) ∗ linear c) ⊢ G' m c := by
  unfold G'
  iintro ⟨H1, H2⟩
  iexists K
  isplitl [H1] <;> iassumption

theorem regroup :
    (bigSep Finset.univ fun c : Dev nD => iprop((bigSep Finset.univ fun s : SemLoc sig => iprop(∃ κ : ℕ, cellInv ER (Rd m) κ ((c : Thread nD τ), s) ∗ reached ER ((c : Thread nD τ), s) 0))
          ∗ (bigSep Finset.univ fun s : SemLoc sig => pos c s 0)
          ∗ bigSep Finset.univ fun s : SemLoc sig => bigSep Finset.univ fun d : Dev nD => tok c s d) : sProp 𝕄)
      ⊢ bigSep Finset.univ (G' m) := by
  rw [bigSep_sep', bigSep_sep', toks_dealt,
    ← bigSep_univ_prod (fun p : Dev nD × SemLoc sig => (iprop(∃ κ : ℕ, cellInv ER (Rd m) κ ((p.1 : Thread nD τ), p.2) ∗ reached ER ((p.1 : Thread nD τ), p.2) 0) : sProp 𝕄))]
  iintro ⟨HI, Hat, Htok⟩
  ihave HK := (BI.bigSep_exists_pi Finset.univ (fun (p : Dev nD × SemLoc sig) (κ : ℕ) =>
    (iprop(cellInv ER (Rd m) κ ((p.1 : Thread nD τ), p.2) ∗ reached ER ((p.1 : Thread nD τ), p.2) 0) : sProp 𝕄))) $$ HI
  icases HK with ⟨%K, HI⟩
  ihave HI := (show (bigSep Finset.univ fun p : Dev nD × SemLoc sig => (iprop(cellInv ER (Rd m) (K p) ((p.1 : Thread nD τ), p.2) ∗ reached ER ((p.1 : Thread nD τ), p.2) 0) : sProp 𝕄))
    ⊢ bigSep Finset.univ (cellEnv m K) from Entails.of_eq rfl) $$ HI
  iapply (bigSep_using (R := bigSep Finset.univ (cellEnv m K)) fun c _ => give m c K)
  isplitl [HI]; · iexact HI
  unfold linear
  simp only [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

abbrev O₀ (c : Dev nD) : CellTallies nD τ sig Unit := oAll c 0 0 0

theorem sum_at (d : Dev nD) (f : Dev nD → GSem nD τ sig) (n : ℕ) (g : GSem nD τ sig) :
    (∑ p ∈ Finset.univ.filter (fun p : Dev nD => 0 ≤ p.val ∧ p ≠ d), tallyAt (f p) () n : CellTallies nD τ sig Unit) g ()
      = ∑ p : Dev nD, if p ≠ d ∧ g = f p then n else 0 := by
  rw [Finset.sum_apply, Finsupp.finset_sum_apply, Finset.sum_filter]
  refine Finset.sum_congr rfl fun p _ => ?_
  rw [tallyAt_apply]
  by_cases h1 : p ≠ d
  · by_cases h2 : g = f p
    · rw [if_pos ⟨Nat.zero_le _, h1⟩, if_pos ⟨h2, rfl⟩, if_pos ⟨h1, h2⟩]
    · rw [if_pos ⟨Nat.zero_le _, h1⟩, if_neg (fun h => h2 h.1), if_neg (fun h => h2 h.2)]
  · rw [if_neg (fun h => h1 h.2), if_neg (fun h => h1 h.1)]

theorem sum_none (d : Dev nD) (f : Dev nD → GSem nD τ sig) (n : ℕ) (g : GSem nD τ sig) (h : ∀ p, p ≠ d → g ≠ f p) :
    (∑ p ∈ Finset.univ.filter (fun p : Dev nD => 0 ≤ p.val ∧ p ≠ d), tallyAt (f p) () n : CellTallies nD τ sig Unit) g () = 0 := by
  rw [sum_at]
  exact Finset.sum_eq_zero fun p _ => if_neg fun h' => h p h'.1 h'.2

theorem sum_hit (d : Dev nD) (f : Dev nD → GSem nD τ sig) (n : ℕ) (p : Dev nD) (hf : ∀ q, f p = f q → p = q) (hp : p ≠ d) :
    (∑ p ∈ Finset.univ.filter (fun p : Dev nD => 0 ≤ p.val ∧ p ≠ d), tallyAt (f p) () n : CellTallies nD τ sig Unit) (f p) () = n := by
  rw [sum_at, Finset.sum_eq_single p (fun q _ hq => if_neg fun h => hq (hf q h.2).symm) (fun h => absurd (Finset.mem_univ p) h), if_pos ⟨hp, rfl⟩]

theorem bar_ne_rcv (p q e : Dev nD) (h : Fin 2) : barC p ≠ rcvC q h e := fun h' => by cases congrArg Prod.snd h'
theorem bar_inj (p q : Dev nD) (h : barC p = barC q) : p = q := congrArg (fun g : GSem nD τ sig => g.1.1) h
theorem rcv_dev {p q e e' : Dev nD} {h h' : Fin 2} (he : rcvC p h e = rcvC q h' e') : p = q := congrArg (fun g : GSem nD τ sig => g.1.1) he
theorem rcv_ix {p q e e' : Dev nD} {h h' : Fin 2} (he : rcvC p h e = rcvC q h' e') : h = h' ∧ e = e' := by
  have h1 : 48 + 16 * h.val + e.val = 48 + 16 * h'.val + e'.val := congrArg Fin.val (SemLoc.dma.inj (congrArg Prod.snd he))
  have l1 : e.val < 16 := e.isLt
  have l2 : e'.val < 16 := e'.isLt
  exact ⟨Fin.ext (by omega), Fin.ext (by omega)⟩

/-- What device `d` owes device `c`'s barrier. -/
theorem owed_bar (d : Dev nD) : O₀ d (barC c) () = if d = c then 0 else 1 := by
  unfold O₀ oAll oRcv oBar
  rw [Pi.add_apply, Finsupp.add_apply, Pi.add_apply, Finsupp.add_apply, sum_none d _ _ _ (fun p _ => bar_ne_rcv _ _ _ _), sum_none d _ _ _ (fun p _ => bar_ne_rcv _ _ _ _)]
  by_cases h : d = c
  · rw [if_pos h, sum_none d _ _ _ fun p hp h' => hp ((bar_inj _ _ h').symm.trans h.symm)]
  · rw [if_neg h, sum_hit d (fun p => barC p) 1 c (fun q => bar_inj _ _) (Ne.symm h)]

theorem one_of (h : Fin 2) (h0 : ¬ (0 : Fin 2) = h) : (1 : Fin 2) = h := by revert h; decide

/-- What device `d` owes device `c`'s landing of half `h` from device `q`. -/
theorem owed_rcv (d q : Dev nD) (hq : q ≠ c) (h : Fin 2) : O₀ d (rcvC c h q) () = if d = q then Nst else 0 := by
  have key (k : Fin 2) : oRcv d k 0 (rcvC c h q) () = if d = q ∧ k = h then Nst else 0 := by
    unfold oRcv
    by_cases hd : d = q ∧ k = h
    · obtain ⟨rfl, rfl⟩ := hd
      rw [if_pos ⟨rfl, rfl⟩]
      exact sum_hit d (fun p => rcvC p k d) Nst c (fun _ he => rcv_dev he) (Ne.symm hq)
    · rw [if_neg hd]
      exact sum_none d _ _ _ fun p _ he => hd ⟨(rcv_ix he).2.symm, (rcv_ix he).1.symm⟩
  have kb : oBar d 0 (rcvC c h q) () = 0 := sum_none d _ _ _ fun p _ he => bar_ne_rcv _ _ _ _ he.symm
  unfold O₀ oAll
  rw [Pi.add_apply, Finsupp.add_apply, Pi.add_apply, Finsupp.add_apply, key, key, kb]
  by_cases hd : d = q
  · rw [if_pos hd]
    by_cases h0 : (0 : Fin 2) = h
    · rw [if_pos ⟨hd, h0⟩, if_neg (fun h' => absurd (h0.trans h'.2.symm) (by decide))]; rfl
    · rw [if_neg (fun h' => h0 h'.2), if_pos ⟨hd, one_of h h0⟩, Nat.zero_add]; rfl
  · rw [if_neg (fun h' => hd h'.1), if_neg (fun h' => hd h'.1), if_neg hd]

theorem ones (c : Dev nD) : (∑ d : Dev nD, if d = c then 0 else 1) = 15 := by revert c; decide

theorem launch_bar : tallyOn (barC c) (launchCredit (Pipeline.owing O₀) 0 (barC c)) = (tallyAt (barC c) () 15 : CellTallies nD τ sig Unit) := by
  unfold tallyAt; refine congrArg _ (Finsupp.ext fun u => ?_); cases u
  rw [Pipeline.launchCredit_owing, Finsupp.single_eq_same, Finset.sum_congr rfl fun d _ => owed_bar c d, ones]

theorem launch_rcv (h : Fin 2) (q : Dev nD) (hq : q ≠ c) :
    tallyOn (rcvC c h q) (launchCredit (Pipeline.owing O₀) 0 (rcvC c h q)) = (tallyAt (rcvC c h q) () Nst : CellTallies nD τ sig Unit) := by
  unfold tallyAt; refine congrArg _ (Finsupp.ext fun u => ?_); cases u
  rw [Pipeline.launchCredit_owing, Finsupp.single_eq_same, Finset.sum_congr rfl fun d _ => owed_rcv c d q hq h, Finset.sum_ite_eq' Finset.univ q fun _ => Nst,
    if_pos (Finset.mem_univ _)]

theorem creds_rcv (h : Fin 2) :
    (bigSep Finset.univ fun q : Dev nD => (cred (tallyOn (rcvC c h q) (launchCredit (Pipeline.owing O₀) 0 (rcvC c h q))) : sProp 𝕄))
      ⊢ seg (others c fun p => cred (tallyAt (rcvC c h p) () Nst)) 0 16 := by
  rw [seg_others]
  refine bigSep_mono fun q _ => ?_
  by_cases hq : q = c
  · subst hq
    rw [others_self]
    exact show (cred (tallyOn (rcvC q h q) (launchCredit (Pipeline.owing O₀) 0 (rcvC q h q))) : sProp 𝕄) ⊢ iprop(emp) by iintro -; iempintro
  · rw [others_ne c _ q (Ne.symm hq), launch_rcv c h q hq]
    exact BI.Entails.refl _

theorem creds_intro : (Pipeline.launchCred O₀ c : sProp 𝕄) ⊢ creds c := by
  unfold Pipeline.launchCred creds
  rw [bigSep_sems, bigSep_two, bigSep_two, launch_bar]
  iintro ⟨HB, -, -, -, H0, H1⟩
  isplitl [HB]; · iexact HB
  isplitl [H0]
  · iapply (creds_rcv c 0); iexact H0
  · iapply (creds_rcv c 1); iexact H1

/-! ## The proof data -/

/-- What a device's program starts from, its scratch buffers apart. -/
def start : sProp 𝕄 :=
  iprop((∃ K, Env m K ∗ linear c) ∗ creds c ∗ (((c : Thread nD τ).loc main_arg0) ↦{fullShare} xa m c) ∗ ∃ v, ((c : Thread nD τ).loc main_v1) ↦{fullShare} v)
/-- The scratch buffers at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def Φ₀ : sProp 𝕄 := iprop(start m c ∗ scratch (F := F) c)
/-- The two arrays after the run. -/
def arrays₁ : sProp 𝕄 := iprop((((c : Thread nD τ).loc main_arg0) ↦{fullShare} xa m c) ∗ (((c : Thread nD τ).loc main_v1) ↦{fullShare} out m c))
def Φ₁ : sProp 𝕄 := iprop(arrays₁ m c ∗ scratch (F := F) c ∗ bigSep Finset.univ fun s : SemLoc sig => semVal ((c : Thread nD τ), s) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

theorem run_st (K : Dev nD × SemLoc sig → ℕ) {P : sProp 𝕄}
    (h : iprop(owing (F := F) c 16 16 16 ∗ Φ₁ m c) ⊢ P) :
    St m K c 0 0 0 0 0 0 0 0 0 0 0 0 0 0 0 0 0 ⊢ WP c (bodyAt0 t0_0) (fun _ => iprop(|={Set.univ}=> P)) := by
  refine body m K c (BIBase.Entails.trans (end_st m K c) (BI.fupd_mono (BIBase.Entails.trans ?_ h)))
  unfold Φ₁ arrays₁ scratch
  iintro ⟨Ho, HA, HV, H0, H1, H2, H3, HZ⟩
  isplitl [Ho]; · iexact Ho
  isplitl [HA HV]; · isplitl [HA] <;> iassumption
  isplitr [HZ]
  · isplitl [H0]; · iexists _; iexact H0
    isplitl [H1]; · iexists _; iexact H1
    isplitl [H2]; · iexists _; iexact H2
    iexists _; iexact H3
  iexact HZ

/-- What the body leaves, with nothing owed and no window to hand back. -/
theorem post_of (Ψ : Fin cfg0.W → sProp 𝕄) :
    iprop(owing (F := F) c 16 16 16 ∗ Φ₁ m c) ⊢ iprop(Φ₁ m c ∗ (dats m 0 c).owesAt () t0_0.succ ∗ bigSep Finset.univ Ψ) := by
  unfold owing Dat.owesAt Pipeline.owesWithin
  rw [oAll_end, show (dats m 0 c).owed t0_0.succ = 0 from rfl, show (Finset.univ : Finset (Fin cfg0.W)) = ∅ from rfl, bigSep_empty]
  iintro ⟨⟨%W, HO⟩, HΦ⟩
  isplitl [HΦ]; · iexact HΦ
  isplitl [HO]
  · iexists W
    isplitr
    · ipureintro; exact fun _ _ => Or.inl trivial
    · iexact HO
  · iempintro

theorem pre_of (Ψ : sProp 𝕄) :
    iprop(Φ₀ m c ∗ (dats m 0 c).owesAt () t0_0.castSucc ∗ Ψ) ⊢ iprop(∃ K, St m K c 0 0 0 0 0 0 0 0 0 0 0 0 0 0 0 0 0) := by
  unfold Dat.owesAt Pipeline.owesWithin Φ₀ start scratch
  rw [show (dats m 0 c).owed t0_0.castSucc = O₀ c from rfl]
  iintro ⟨⟨⟨⟨%K, HE, Hl⟩, Hc, HA, ⟨%v, HV⟩⟩, ⟨%f0, H0⟩, ⟨%f1, H1⟩, ⟨%f2, H2⟩, ⟨%f3, H3⟩⟩, ⟨%W, -, HO⟩, -⟩
  iexists K
  iapply (start_st m K c v f0 f1 f2 f3)
  isplitl [HE]; · iexact HE
  isplitl [HO]; · unfold owing; iexists W; iexact HO
  isplitl [Hl]; · iexact Hl
  isplitl [Hc]; · iexact Hc
  isplitl [HA]; · iexact HA
  isplitl [HV]; · iexact HV
  isplitl [H0]; · iexact H0
  isplitl [H1]; · iexact H1
  isplitl [H2] <;> iassumption

set_option maxRecDepth 8000 in
/-- Each device's program runs from what the launch gives it to what the run leaves. -/
theorem body_obligation : BodyObligation (dats m 0 c) (defs₀ (F := F)) 𝒱₀ () Set.univ := fun t => by
  rw [fin_N0 t]
  refine BIBase.Entails.trans ?_ (wp_fupd frame (wpE (defs₀ (F := F)) 𝒱₀ (c : Thread nD τ) none) Set.univ (bodyAt0 t0_0) _)
  refine BIBase.Entails.trans (pre_of m c _) (exists_elim fun K => ?_)
  exact run_st m c K (post_of m c _)

/-! ## The launch -/

theorem share_eq (w : Fin cfg0.W) : (dats m 0 c).share w = fullShare := w.elim0

theorem start_intro :
    iprop(Pipeline.unscopedRestP Pipeline.Prefetch.none cfg0.spec c (fun b => m ((c : Thread nD τ).loc b)) ∗ levAts L lv ∗ Pipeline.launchCred O₀ c
        ∗ prngReg c (ρ c) ∗ G' m c)
      ⊢ |={Set.univ}=> iprop(start m c ∗ emp) := by
  unfold G' start
  rw [Pipeline.unscopedRestP_none, unscopedRest0_eq]
  iintro ⟨⟨HA, HV⟩, Hlev, Hcred, -, %K, HK, Hlin⟩
  imodintro
  isplitl
  · isplitl [Hlev HK Hlin]
    · iexists K
      isplitl [Hlev HK]
      · unfold Env; isplitl [HK] <;> iassumption
      · iexact Hlin
    isplitl [Hcred]; · iapply (creds_intro c); iexact Hcred
    isplitl [HA]; · iexact HA
    iexists _; iexact HV
  · iempintro

theorem phi0_intro :
    iprop(start m c ∗ Pipeline.prefHeld Pipeline.Prefetch.none c (fun _ => fullShare.right) (fun k => k.elim0) ∗ Pipeline.scopedRest cfg0.spec c) ⊢ Φ₀ m c := by
  unfold Φ₀ scratch
  rw [scopedRest0_eq]
  iintro ⟨Hst, -, Hr⟩
  isplitl [Hst] <;> iassumption

theorem phi1_exit :
    Φ₁ m c ⊢ iprop((arrays₁ m c ∗ unscopedSems0 c) ∗ Pipeline.ownSems0 (Ix := Unit) (Name := ℕ) (U := UU) (Lvl := ℕ) (Val := Elt F) (τ := τ) osem c
        ∗ Pipeline.scopedRest cfg0.spec c) := by
  unfold Φ₁ scratch
  rw [scopedRest0_eq, ← sems0_eq]
  iintro ⟨HA, Hr, Hu, Ho⟩
  isplitl [HA Hu]; · isplitl [HA] <;> iassumption
  isplitl [Ho] <;> iassumption

theorem waits : (levAts L lv : sProp 𝕄) ⊢ Pipeline.cellsWaits cfgs (dats m) () 0 c := Pipeline.cellsWaits_intro cfgs (dats m) () 0 c fun w s t => w.elim0

set_option maxRecDepth 8000 in
/-- From any memory with all semaphores at zero, for any float values: every weakly fair execution terminates, and in
    every final state each device's block of the argument is unchanged, its block of the result is `out`, and every
    semaphore is at zero. -/
theorem run_main : θ_run defs (onTc (τ := τ) (main (F := F))) (s₀ m ρ) (fun r =>
    (∀ c : Dev nD, r.2.mem ((c : Thread nD τ).loc main_arg0) = xa m c ∧ r.2.mem ((c : Thread nD τ).loc main_v1) = out m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(arrays₁ m c ∗ unscopedSems0 c)) (Z := fun _ => iprop(emp))
    (hX := start_intro m ρ) (hin := phi0_intro m) (hout := phi1_exit m)
    (QY := fun c s => (s.mem ((c : Thread nD τ).loc main_arg0) = xa m c ∧ s.mem ((c : Thread nD τ).loc main_v1) = out m c)
      ∧ ∀ sm : SemLoc sig, sm.isScoped .tc = false → s.sem ((c.tc : Thread nD τ), sm) = 0)
    (hY := fun c s' => by
      unfold arrays₁
      iintro ⟨⟨⟨HA, HV⟩, Hu⟩, -, HSI⟩
      icombine HSI HA gives %hA
      icombine HSI HV gives %hV
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ hA, Buf.eq_of_forall_mem_univ hV⟩, hs⟩
      · iexact HSI)
    (hQ := fun _ h hs => ⟨fun c => (h c).2.2.1, sem_eq_zero hs fun c => (h c).2.2.2⟩)

end Cert.Softmax

end
-- ==== Proof.Pays.lean ====
/-
# What the kernel's and the reference's operations compute, at an index

Over the extended reals, each vector expression of the kernel's body and of the reference, read at an index: the sums of
exponentials along a row, one over the sum of a column of the table, the scaled exponentials, and the quotient that the
reference writes.
-/
module

public import proofs.«01_k».proof.Proof.Layout
public import proofs.«01_k».proof.Proof.Gen.ReferenceIdeal
public import proofs.«01_k».proof.Proof.Gen.Pre_finite_KernelIdeal
public import Idealize.ShloMosaic.Lib.Pointwise

@[expose] public section

noncomputable section

namespace Cert.Softmax

open Cert.KernelIdeal Cert.KernelIdeal.Gen
open Idealize.ShloMosaic

set_option maxRecDepth 16384

/-- A block's row sums of exponentials, entry `k`. -/
theorem pay1_apply (v : Vec Ideal S256x2048 .f32) (k : Fin 256) : k0_pay1 v (ix2 0 k) = ∑ l : Fin 2048, Ideal.exp (v (ix2 k l)) := by
  pointwise [k0_pay1]

/-- One over the sum of column `q` of half the table. -/
theorem pay42_apply (t : Vec Ideal S16x1x1024 .f32) (q : Fin 1024) : k0_pay42 t (ix2 q 0) = Ideal.div 1 (∑ p : Fin 16, t (ix3 p 0 q)) := by
  pointwise [k0_pay42]

/-- A block of the result at row `r`, column `j`: the exponential times the row's scale. -/
theorem outBlk_apply (m : (ℓ : Loc nD τ sig) → Buf (Elt Ideal) ℓ) (c : Dev nD) (b : Fin 8) (r : Fin 256) (j : Fin 2048) :
    outBlk m c b (ix2 r j) = Ideal.exp (xblk m c b (ix2 r j)) * sc m (hOf b) (ix2 ⟨256 * (b.val % 4) + r.val, by omega⟩ 0) := by
  pointwise [outBlk]

end Cert.Softmax

namespace Cert.Softmax

open Idealize.ShloMosaic

/-- The bit pattern of `-∞`. -/
theorem negInf_eq : Ideal.ofBits .f32 0xFF800000#32 = ⊥ := by
  simp [Ideal.ofBits, Ideal.ieee]
/-- The bit pattern of `+∞`. -/
theorem posInf_eq : Ideal.ofBits .f32 0x7F800000#32 = ⊤ := by
  simp [Ideal.ofBits, Ideal.ieee]

end Cert.Softmax

namespace Cert.Softmax.Ref

open Cert.ReferenceIdeal Cert.ReferenceIdeal.Gen
open Idealize.ShloMosaic

/-- The reference's result, of its argument. -/
def softmax (X : FVec Ideal S2048x32768 .f32) : FVec Ideal S2048x32768 .bf16 :=
  truncf .bf16 (Host.divf (Host.exp (subf X (broadcastInDim S2048x32768 ![0, 1] bcast_S2048x1_S2048x32768_0_1 (broadcastInDim S2048x1 ![0] bcast_S2048_S2048x1_0 (Host.reduce FloatOps.maximumf X (constant S_ .f32 0xFF800000#32) reducesTo_S2048x32768_S2048_d1 h_S_)))))
    (broadcastInDim S2048x32768 ![0, 1] bcast_S2048x1_S2048x32768_0_1 (broadcastInDim S2048x1 ![0] bcast_S2048_S2048x1_0 (Host.reduceAdd (Host.exp (subf X (broadcastInDim S2048x32768 ![0, 1] bcast_S2048x1_S2048x32768_0_1 (broadcastInDim S2048x1 ![0] bcast_S2048_S2048x1_0 (Host.reduce FloatOps.maximumf X (constant S_ .f32 0xFF800000#32) reducesTo_S2048x32768_S2048_d1 h_S_))))) (constant S_ .f32 0x00000000#32) reducesTo_S2048x32768_S2048_d1 h_S_)))) bitsLt_bf16_f32

/-- The maximum of row `r`. -/
def rowMax (X : FVec Ideal S2048x32768 .f32) (r : Fin 2048) : EReal := Finset.univ.fold max ⊥ fun k : Fin 32768 => X (ix2 r k)

theorem softmax_apply (X : FVec Ideal S2048x32768 .f32) (r : Fin 2048) (j : Fin 32768) :
    softmax X (ix2 r j) = Ideal.div (Ideal.exp (X (ix2 r j) - rowMax X r)) (∑ k : Fin 32768, Ideal.exp (X (ix2 r k) - rowMax X r)) := by
  pointwise [softmax, rowMax]
  rw [negInf_eq]

end Cert.Softmax.Ref

namespace Cert.Softmax
open Idealize.ShloMosaic

/-- The precondition says that every element is a real number. -/
theorem finite_apply (x : FVec Ideal Cert.Pre_finite_KernelIdeal.S2048x2048 .f32) (h : Cert.Pre_finite_KernelIdeal.fn x = fun _ => 1#1) (r j : Fin 2048) :
    x (ix2 r j) ≠ ⊤ ∧ x (ix2 r j) ≠ ⊥ := by
  have h1 := congrFun h (ix2 r j)
  pointwise [Cert.Pre_finite_KernelIdeal.fn] at h1
  rw [posInf_eq] at h1
  have h2 : max (x (ix2 r j)) (-x (ix2 r j)) < (⊤ : EReal) := by
    by_contra hn
    have h3 : BitVec.ofBool (decide (max (x (ix2 r j)) (-x (ix2 r j)) < (⊤ : EReal))) = 1#1 := h1
    rw [decide_eq_false hn] at h3
    exact absurd h3 (by decide)
  constructor
  · intro e; rw [e] at h2; exact absurd h2 (not_lt.mpr (le_max_left _ _))
  · intro e; rw [e] at h2; exact absurd h2 (not_lt.mpr (le_max_right _ _))

end Cert.Softmax

end
-- ==== Proof.Values.lean ====
/-
# The result is the reference's

Over the extended reals, with every element of the argument a real number: device `c`'s block of the result is block `c` of
the reference's result. The kernel divides `exp x` by the sum of all `exp x` of the row, the reference subtracts the row's
maximum first; the two quotients are the same because `exp (x - M) = exp x / exp M`.
-/
module

public import proofs.«01_k».proof.Proof.Pays
public import Idealize.ShloMosaic.Lib.Layout

@[expose] public section

noncomputable section

namespace Cert.Softmax

open Cert.KernelIdeal Cert.KernelIdeal.Gen
open Idealize.ShloMosaic

/-! ## The softmax of a row of real numbers -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many real numbers, at least one, is a real number. -/
theorem fold_max_real {ι : Type} (s : Finset ι) (x : ι → ℝ) (hs : s.Nonempty) : ∃ M : ℝ, s.fold max ⊥ (fun k => (x k : EReal)) = M := by
  classical
  induction s using Finset.induction_on with
  | empty => exact absurd hs Finset.not_nonempty_empty
  | insert a s ha ih =>
    rw [Finset.fold_insert ha]
    rcases s.eq_empty_or_nonempty with rfl | hne
    · exact ⟨x a, by rw [Finset.fold_empty]; exact max_eq_left bot_le⟩
    · obtain ⟨M, hM⟩ := ih hne
      exact ⟨max (x a) M, by rw [hM]; exact (EReal.coe_strictMono.monotone.map_max).symm⟩

/-- Scaling by one over the sum of the exponentials is the quotient of the shifted exponentials, whatever the shift. -/
theorem shift_free {n : ℕ} (x : Fin (n + 1) → ℝ) (M : ℝ) (j : Fin (n + 1)) :
    Ideal.exp (x j) * Ideal.div 1 (∑ k, Ideal.exp (x k)) = Ideal.div (Ideal.exp ((x j : EReal) - M)) (∑ k, Ideal.exp ((x k : EReal) - M)) := by
  have pos (f : Fin (n + 1) → ℝ) : (∑ k, Real.exp (f k)) ≠ 0 :=
    (Finset.sum_pos (fun k _ => Real.exp_pos (f k)) Finset.univ_nonempty).ne'
  have e (f : Fin (n + 1) → ℝ) : ∑ k, Ideal.exp (f k) = ((∑ k, Real.exp (f k) : ℝ) : EReal) := (coe_sum _ _).symm
  have e' : ∑ k, Ideal.exp ((x k : EReal) - M) = ∑ k, Ideal.exp ((x k - M : ℝ) : EReal) := rfl
  rw [e', e, e (fun k => x k - M), Ideal.div_coe (pos _), Ideal.div_coe (pos _), one_mul]
  show ((Real.exp (x j) : ℝ) : EReal) * _ = ((Real.exp (x j - M) : ℝ) : EReal) * _
  rw [← EReal.coe_mul, ← EReal.coe_mul]
  refine congrArg _ ?_
  simp only [Real.exp_sub]
  rw [← Finset.sum_div]
  have hM := (Real.exp_pos M).ne'
  have hS := pos x
  field_simp

/-- A sum over all columns is the sum over the devices of the sums over their columns. -/
theorem sum_cols (f : Fin 32768 → EReal) : ∑ k, f k = ∑ p : Fin 16, ∑ l : Fin 2048, f ⟨2048 * p.val + l.val, by omega⟩ := by
  rw [← Fintype.sum_prod_type' (f := fun (p : Fin 16) (l : Fin 2048) => f ⟨2048 * p.val + l.val, by omega⟩)]
  refine (Fintype.sum_equiv (finProdFinEquiv (m := 16) (n := 2048)) _ f fun x => congrArg f (Fin.ext ?_)).symm
  exact Nat.add_comm _ _

/-! ## The kernel's result by coordinates -/

variable (m : (ℓ : Loc nD τ sig) → Buf (Elt Ideal) ℓ) (c : Dev nD)

theorem xblk_apply (b : Fin 8) (r : Fin 256) (l : Fin 2048) : xblk m c b (ix2 r l) = xa m c (ix2 ⟨256 * b.val + r.val, by omega⟩ l) := by
  refine congrArg (xa m c) (funext fun a => ?_)
  match a with
  | ⟨0, _⟩ => exact Fin.ext (ValueKit.rect_emb_unit_val _ _ _ _ _)
  | ⟨1, _⟩ => exact Fin.ext ((ValueKit.rect_emb_unit_val _ _ _ _ _).trans (Nat.zero_add _))

theorem st_apply (r : Fin 2048) : st m c (ix2 0 r) = ∑ l : Fin 2048, Ideal.exp (xa m c (ix2 r l)) := by
  refine (pay1_apply (xblk m c ⟨r.val / 256, by omega⟩) ⟨r.val % 256, Nat.mod_lt _ (by decide)⟩).trans (Finset.sum_congr rfl fun l _ => ?_)
  rw [xblk_apply]
  exact congrArg (fun k => Ideal.exp (xa m c (ix2 k l))) (Fin.ext (Nat.div_add_mod _ _))

theorem gh_apply (h : Fin 2) (p : Dev nD) (q : Fin 1024) : gh m h (ix3 p 0 q) = st m p (ix2 0 ⟨1024 * h.val + q.val, by omega⟩) := by
  have h0 : (((tabR h).emb (ix3 p 0 q)) 0 : ℕ) = 0 + p.val := ValueKit.rect_emb_unit_val _ _ _ _ _
  have h2 : (((tabR h).emb (ix3 p 0 q)) 2 : ℕ) = 1024 * h.val + q.val := ValueKit.rect_emb_unit_val _ _ _ _ _
  refine congrArg₂ (st m) (Fin.ext (h0.trans (Nat.zero_add _))) (funext fun a => ?_)
  match a with
  | ⟨0, _⟩ => rfl
  | ⟨1, _⟩ => exact Fin.ext h2

theorem out_apply (r j : Fin 2048) :
    out m c (ix2 r j) = Ideal.exp (xa m c (ix2 r j)) * Ideal.div 1 (∑ p : Fin 16, ∑ l : Fin 2048, Ideal.exp (xa m p (ix2 r l))) := by
  refine (outBlk_apply m c ⟨r.val / 256, by omega⟩ ⟨r.val % 256, Nat.mod_lt _ (by decide)⟩ j).trans ?_
  rw [xblk_apply]
  refine congrArg₂ (· * ·) (congrArg (fun k => Ideal.exp (xa m c (ix2 k j))) (Fin.ext (Nat.div_add_mod _ _))) ?_
  refine (pay42_apply _ _).trans (congrArg _ (Finset.sum_congr rfl fun p _ => ?_))
  rw [gh_apply, st_apply]
  refine Finset.sum_congr rfl fun l _ => congrArg (fun k => Ideal.exp (xa m p (ix2 k l))) (Fin.ext ?_)
  show 1024 * (r.val / 256 / 4) + (256 * (r.val / 256 % 4) + r.val % 256) = r.val
  omega

/-! ## Against the reference -/

/-- Column `j` of device `c`'s block, in the whole array. -/
def col (c : Dev nD) (j : Fin 2048) : Fin 32768 := ⟨2048 * c.val + j.val, by have : c.val < 16 := c.isLt; omega⟩

theorem block_col (r j : Fin 2048) {α : Type} (v : Cert.ReferenceIdeal.S2048x32768.Idx → α) :
    (Layout.block ⟨2, ![2048, 2048]⟩ ⟨2, ![2048, 32768]⟩ 1 16 c v) (ix2 r j) = v (ix2 r (col c j)) := by
  rw [Layout.block_apply]
  refine congrArg v (funext fun a => ?_)
  match a with
  | ⟨0, _⟩ => rfl
  | ⟨1, _⟩ => exact Fin.ext (congrArg (· + j.val) (Nat.mul_comm _ _))

/-- Device `c`'s block of the result is block `c` of the reference's result, where the argument is real. -/
theorem out_eq (X : FVec Ideal Cert.ReferenceIdeal.S2048x32768 .f32)
    (hX : ∀ c : Dev nD, xa m c = Layout.block ⟨2, ![2048, 2048]⟩ ⟨2, ![2048, 32768]⟩ 1 16 c X)
    (hf : ∀ (c : Dev nD) (r j : Fin 2048), xa m c (ix2 r j) ≠ ⊤ ∧ xa m c (ix2 r j) ≠ ⊥) :
    out m c = Layout.block ⟨2, ![2048, 2048]⟩ ⟨2, ![2048, 32768]⟩ 1 16 c (Ref.softmax X) := by
  have hx (p : Dev nD) (r l : Fin 2048) : xa m p (ix2 r l) = X (ix2 r (col p l)) := by
    rw [hX p]; exact block_col p r l X
  have real (r : Fin 2048) (k : Fin 32768) : ∃ y : ℝ, X (ix2 r k) = (y : EReal) := by
    have h1 := hf (⟨k.val / 2048, by omega⟩ : Fin 16) r ⟨k.val % 2048, Nat.mod_lt _ (by decide)⟩
    rw [hx] at h1
    have e : col (⟨k.val / 2048, by omega⟩ : Fin 16) ⟨k.val % 2048, Nat.mod_lt _ (by decide)⟩ = k := Fin.ext (Nat.div_add_mod _ _)
    have h2 : X (ix2 r k) ≠ ⊤ ∧ X (ix2 r k) ≠ ⊥ := by rw [← e]; exact h1
    exact ⟨(X (ix2 r k)).toReal, (EReal.coe_toReal h2.1 h2.2).symm⟩
  funext i
  obtain ⟨r, j, rfl⟩ : ∃ r j : Fin 2048, i = ix2 r j := ⟨i 0, i 1, eq_ix2 i⟩
  choose y hy using real r
  refine Eq.trans ?_ (block_col c r j (Ref.softmax X)).symm
  rw [out_apply, Ref.softmax_apply, hx]
  obtain ⟨M, hM⟩ := fold_max_real (Finset.univ : Finset (Fin 32768)) y Finset.univ_nonempty
  have hmax : Ref.rowMax X r = (M : EReal) := by
    unfold Ref.rowMax
    rw [show (fun k : Fin 32768 => X (ix2 r k)) = fun k => (y k : EReal) from funext hy]
    exact hM
  have hsum : (∑ p : Fin 16, ∑ l : Fin 2048, Ideal.exp (xa m p (ix2 r l))) = ∑ k : Fin 32768, Ideal.exp (y k) := by
    rw [sum_cols]
    exact Finset.sum_congr rfl fun p _ => Finset.sum_congr rfl fun l _ => congrArg Ideal.exp ((hx p r l).trans (hy _))
  rw [hsum, hmax, hy, Finset.sum_congr rfl fun k _ => congrArg (fun z : EReal => Ideal.exp (z - M)) (hy k)]
  exact shift_free (n := 32767) y M _

end Cert.Softmax

end
-- ==== Proof.lean ====
/-
# The certificate

The frames come from one run of the sixteen devices, written for any float values (`Cert.Softmax.run_main`): read at
`Bits` it is the frame of the kernel as printed, read at `Ideal` the frame of the idealized kernel. The value claim puts
that run beside the reference's and takes the equation of the two results from `Cert.Softmax.out_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Values

@[expose] public section

noncomputable section

namespace Cert.Proof

open Idealize.ShloMosaic Idealize.SL.Sem

/-- The kernel as printed runs to its end, leaves its argument as it was and every semaphore at zero: the run at `Bits`. -/
theorem frame_kernel : Cert.quiescent_Kernel := fun m ρ _ =>
  (θ_run Cert.KernelIdeal.defs _ _).mono (fun _ h => ⟨fun c => (h.1 c).1, h.2⟩) (Cert.Softmax.run_main (F := Bits) m ρ)

/-- The idealized kernel runs to its end, leaves its argument as it was and every semaphore at zero: the run at `Ideal`. -/
theorem frame_kernelIdeal : Cert.quiescent_KernelIdeal := fun m ρ _ =>
  (θ_run Cert.KernelIdeal.defs _ _).mono (fun _ h => ⟨fun c => (h.1 c).1, h.2⟩) (Cert.Softmax.run_main (F := Ideal) m ρ)

/-- The reference runs to its end and leaves its argument as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's block of the kernel's result is its block of the reference's result, where every element of the
    argument is a real number. -/
theorem value : Cert.algebraic_KernelIdeal_ReferenceIdeal_pre_finite_KernelIdeal := fun m ρ m' ρ' hpre hblock =>
  ⟨Cert.Softmax.Ref.softmax (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.Softmax.out_eq m c _ hblock fun c r j => Cert.Softmax.finite_apply _ (hpre c) r j), (h.1 c).1⟩)
      (Cert.Softmax.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m ρ _ => frame_kernelIdeal m ρ trivial, frame_reference, fun m ρ _ => frame_reference m ρ trivial,
  trivial, value⟩

end Cert.Proof

end
